-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_readable [hPre_readable : Cert.Pre_readable.Facts] (m : (ℓ : Loc Cert.KernelIdeal.nD Cert.KernelIdeal.τ Cert.KernelIdeal.sig) → Buf (Elt Ideal) ℓ) : Prop :=
  ∀ c : Dev Cert.KernelIdeal.nD,
    (Cert.Pre_readable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_readable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_readable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_readable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_readable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_readable [hPre_readable : Cert.Pre_readable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_readable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_readable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_readable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_readable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_readable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_readable [hKernelIdeal : Cert.KernelIdeal.Facts] [hPre_readable : Cert.Pre_readable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_readable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_readable [hReferenceIdeal : Cert.ReferenceIdeal.Facts] [hPre_readable : Cert.Pre_readable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_readable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_readable [hKernelIdeal : Cert.KernelIdeal.Facts] [hReferenceIdeal : Cert.ReferenceIdeal.Facts] [hPre_readable : Cert.Pre_readable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_readable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_readable : Cert.Pre_readable.Facts),
    quiescent_Kernel (hKernel := hKernel)
    ∧ quiescent_KernelIdeal (hKernelIdeal := hKernelIdeal)
    ∧ quiescent_KernelIdeal_pre_readable (hKernelIdeal := hKernelIdeal) (hPre_readable := hPre_readable)
    ∧ quiescent_ReferenceIdeal (hReferenceIdeal := hReferenceIdeal)
    ∧ quiescent_ReferenceIdeal_pre_readable (hReferenceIdeal := hReferenceIdeal) (hPre_readable := hPre_readable)
    ∧ preserves_Kernel_KernelIdeal
    ∧ algebraic_KernelIdeal_ReferenceIdeal_pre_readable (hKernelIdeal := hKernelIdeal) (hReferenceIdeal := hReferenceIdeal) (hPre_readable := hPre_readable)
-- ==== Pre_readable.lean ====
abbrev S2x128x7168 : Shape := ⟨3, ![2, 128, 7168]⟩
abbrev S18432x7168 : Shape := ⟨2, ![18432, 7168]⟩
abbrev S18432 : Shape := ⟨1, ![18432]⟩
abbrev S64x7168 : Shape := ⟨2, ![64, 7168]⟩
abbrev S18432x64 : Shape := ⟨2, ![18432, 64]⟩
abbrev S_ : Shape := ⟨0, ![]⟩
abbrev S2x128 : Shape := ⟨2, ![2, 128]⟩

class Facts : Prop where
  bitsLt_bf16_f32 : FTy.bits .bf16 < FTy.bits .f32
  reducesTo_S2x128x7168_S2x128_d2 : S2x128x7168.ReducesTo [2] S2x128
  h_S_ : 0 < S_.numel
  bcast_S_S2x128 : S_.BroadcastsInDim S2x128 (![] : Fin 0 → Fin S2x128.rank)
  natLt_8_32 : 8 < 32
  bcast_S_S18432x7168 : S_.BroadcastsInDim S18432x7168 (![] : Fin 0 → Fin S18432x7168.rank)
  bcast_S_S18432 : S_.BroadcastsInDim S18432 (![] : Fin 0 → Fin S18432.rank)
  bcast_S_S64x7168 : S_.BroadcastsInDim S64x7168 (![] : Fin 0 → Fin S64x7168.rank)
  bcast_S_S18432x64 : S_.BroadcastsInDim S18432x64 (![] : Fin 0 → Fin S18432x64.rank)

variable [Facts]

def fn_part1 {F : FTy → Type} [FloatOps F] (main_arg2 : FVec F S18432 .f32) (main_arg3 : FVec F S64x7168 .bf16) (main_arg4 : FVec F S18432x64 .bf16) (main_v12 : IVec S2x128 1) (main_v15 : IVec S18432x7168 32) (main_v16 : IVec S18432x7168 32) : IVec S2x128 1 × IVec S18432x7168 1 × IVec S18432 1 × IVec S64x7168 1 × IVec S18432x64 1 :=
  let main_v17 : IVec S18432x7168 1 := cmpi .ne main_v15 main_v16
  let main_v18 : FVec F S18432 .f32 := Host.absf main_arg2
  let main_cst_5 : FVec F S_ .f32 := constant S_ .f32 0x7F800000#32
  let main_v19 : FVec F S18432 .f32 := broadcastInDim S18432 ![] bcast_S_S18432 main_cst_5
  let main_v20 : IVec S18432 1 := cmpf .olt main_v18 main_v19
  let main_v21 : FVec F S64x7168 .bf16 := Host.absf main_arg3
  let main_cst_6 : FVec F S_ .bf16 := constant S_ .bf16 0x7F80#16
  let main_v22 : FVec F S64x7168 .bf16 := broadcastInDim S64x7168 ![] bcast_S_S64x7168 main_cst_6
  let main_v23 : IVec S64x7168 1 := cmpf .olt main_v21 main_v22
  let main_v24 : FVec F S18432x64 .bf16 := Host.absf main_arg4
  let main_cst_7 : FVec F S_ .bf16 := constant S_ .bf16 0x7F80#16
  let main_v25 : FVec F S18432x64 .bf16 := broadcastInDim S18432x64 ![] bcast_S_S18432x64 main_cst_7
  let main_v26 : IVec S18432x64 1 := cmpf .olt main_v24 main_v25
  (main_v12, main_v17, main_v20, main_v23, main_v26)

def fn {F : FTy → Type} [FloatOps F] (main_arg0 : FVec F S2x128x7168 .bf16) (main_arg1 : IVec S18432x7168 8) (main_arg2 : FVec F S18432 .f32) (main_arg3 : FVec F S64x7168 .bf16) (main_arg4 : FVec F S18432x64 .bf16) (main_arg5 : FVec F S18432 .f32) : IVec S2x128 1 × IVec S18432x7168 1 × IVec S18432 1 × IVec S64x7168 1 × IVec S18432x64 1 :=
  let main_v0 : FVec F S2x128x7168 .f32 := (extf .f32 · bitsLt_bf16_f32) main_arg0
  let main_v1 : FVec F S2x128x7168 .f32 := Host.absf main_v0
  let main_cst : FVec F S_ .f32 := constant S_ .f32 0xFF800000#32
  let main_v2 : FVec F S2x128 .f32 := (fun x v => Host.reduce FloatOps.maximumf x v reducesTo_S2x128x7168_S2x128_d2 h_S_) main_v1 main_cst
  let main_cst_0 : FVec F S_ .f32 := constant S_ .f32 0x3B124925#32
  let main_v3 : FVec F S2x128 .f32 := broadcastInDim S2x128 ![] bcast_S_S2x128 main_cst_0
  let main_v4 : FVec F S2x128 .f32 := mulf main_v2 main_v3
  let main_cst_1 : FVec F S_ .f32 := constant S_ .f32 0x00000000#32
  let main_v5 : FVec F S2x128 .f32 := broadcastInDim S2x128 ![] bcast_S_S2x128 main_cst_1
  let main_v6 : IVec S2x128 1 := cmpf .oeq main_v4 main_v5
  let main_cst_2 : FVec F S_ .f32 := constant S_ .f32 0x00800000#32
  let main_v7 : FVec F S2x128 .f32 := broadcastInDim S2x128 ![] bcast_S_S2x128 main_cst_2
  let main_v8 : IVec S2x128 1 := cmpf .oge main_v4 main_v7
  let main_cst_3 : FVec F S_ .f32 := constant S_ .f32 0x7E800000#32
  let main_v9 : FVec F S2x128 .f32 := broadcastInDim S2x128 ![] bcast_S_S2x128 main_cst_3
  let main_v10 : IVec S2x128 1 := cmpf .olt main_v4 main_v9
  let main_v11 : IVec S2x128 1 := andi main_v8 main_v10
  let main_v12 : IVec S2x128 1 := ori main_v6 main_v11
  let main_v13 : IVec S18432x7168 32 := (extui 32 · natLt_8_32) main_arg1
  let main_c : IVec S_ 32 := constantI S_ 32 127#32
  let main_v14 : IVec S18432x7168 32 := broadcastInDim S18432x7168 ![] bcast_S_S18432x7168 main_c
  let main_v15 : IVec S18432x7168 32 := andi main_v13 main_v14
  let main_c_4 : IVec S_ 32 := constantI S_ 32 127#32
  let main_v16 : IVec S18432x7168 32 := broadcastInDim S18432x7168 ![] bcast_S_S18432x7168 main_c_4
  fn_part1 (F := F) main_arg2 main_arg3 main_arg4 main_v12 main_v15 main_v16
-- ==== Kernel.lean ====
abbrev S2x128x7168 : Shape := ⟨3, ![2, 128, 7168]⟩
abbrev S18432x7168 : Shape := ⟨2, ![18432, 7168]⟩
abbrev S18432 : Shape := ⟨1, ![18432]⟩
abbrev S64x7168 : Shape := ⟨2, ![64, 7168]⟩
abbrev S18432x64 : Shape := ⟨2, ![18432, 64]⟩
abbrev S256x7168 : Shape := ⟨2, ![256, 7168]⟩
abbrev S1x18432 : Shape := ⟨2, ![1, 18432]⟩
abbrev S256x18432 : Shape := ⟨2, ![256, 18432]⟩
abbrev S256x1 : Shape := ⟨2, ![256, 1]⟩
abbrev S1024x7168 : Shape := ⟨2, ![1024, 7168]⟩
abbrev S1x1024 : Shape := ⟨2, ![1, 1024]⟩
abbrev S1024x64 : Shape := ⟨2, ![1024, 64]⟩
abbrev S256x1024 : Shape := ⟨2, ![256, 1024]⟩
abbrev S256x64 : Shape := ⟨2, ![256, 64]⟩
abbrev S3x64x64 : Shape := ⟨3, ![3, 64, 64]⟩
abbrev S32x7168 : Shape := ⟨2, ![32, 7168]⟩
abbrev S32 : Shape := ⟨1, ![32]⟩
abbrev S32x1 : Shape := ⟨2, ![32, 1]⟩
abbrev S32x256 : Shape := ⟨2, ![32, 256]⟩
abbrev S64x64 : Shape := ⟨2, ![64, 64]⟩
abbrev S1x64x64 : Shape := ⟨3, ![1, 64, 64]⟩
abbrev S64x1024 : Shape := ⟨2, ![64, 1024]⟩
abbrev S1024 : Shape := ⟨1, ![1024]⟩
abbrev S32x128 : Shape := ⟨2, ![32, 128]⟩
abbrev S16x128 : Shape := ⟨2, ![16, 128]⟩
abbrev S1024x128 : Shape := ⟨2, ![1024, 128]⟩
abbrev S128x1024 : Shape := ⟨2, ![128, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x128x7168, .bf16⟩
  | .hbm, ⟨1, _⟩ => ⟨S18432x7168, .i8⟩
  | .hbm, ⟨2, _⟩ => ⟨S18432, .f32⟩
  | .hbm, ⟨3, _⟩ => ⟨S64x7168, .bf16⟩
  | .hbm, ⟨4, _⟩ => ⟨S18432x64, .bf16⟩
  | .hbm, ⟨5, _⟩ => ⟨S18432, .f32⟩
  | .hbm, ⟨6, _⟩ => ⟨S18432x7168, .fp8e4m3⟩
  | .hbm, ⟨7, _⟩ => ⟨S256x7168, .bf16⟩
  | .hbm, ⟨8, _⟩ => ⟨S1x18432, .f32⟩
  | .hbm, ⟨9, _⟩ => ⟨S1x18432, .f32⟩
  | .hbm, ⟨10, _⟩ => ⟨S256x18432, .bf16⟩
  | .hbm, ⟨11, _⟩ => ⟨S1x18432, .f32⟩
  | .hbm, ⟨12, _⟩ => ⟨S256x7168, .fp8e4m3⟩
  | .hbm, ⟨13, _⟩ => ⟨S256x1, .f32⟩
  | .local _ .vmem, ⟨0, _⟩ => ⟨S256x7168, .bf16⟩
  | .local _ .vmem, ⟨1, _⟩ => ⟨S1024x7168, .fp8e4m3⟩
  | .local _ .vmem, ⟨2, _⟩ => ⟨S1024x7168, .fp8e4m3⟩
  | .local _ .vmem, ⟨3, _⟩ => ⟨S1x1024, .f32⟩
  | .local _ .vmem, ⟨4, _⟩ => ⟨S1x1024, .f32⟩
  | .local _ .vmem, ⟨5, _⟩ => ⟨S64x7168, .bf16⟩
  | .local _ .vmem, ⟨6, _⟩ => ⟨S1024x64, .bf16⟩
  | .local _ .vmem, ⟨7, _⟩ => ⟨S1024x64, .bf16⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S256x7168, .fp8e4m3⟩
  | .local _ .vmem, ⟨15, _⟩ => ⟨S256x1, .f32⟩
  | .local _ .vmem, ⟨16, _⟩ => ⟨S256x64, .bf16⟩
  | .local _ .vmem, ⟨17, _⟩ => ⟨S3x64x64, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_199 : BitVec 32 := 0#32
  let c8_i32 : BitVec 32 := 8#32
  let v453 : BitVec 32 := Scalar.addi c0_i32_199 c8_i32
  let c1_i32_200 : BitVec 32 := 1#32
  ⟨c0_i32_199, v453, c1_i32_200⟩
def k0_mult1 (k0_t1 : Fin k0_t1_loop.trips) : BitVec 32 :=
  let c0_i32_199 : BitVec 32 := 0#32
  let c1_i32_200 : BitVec 32 := 1#32
  let arg13 : BitVec 32 := Scf.iv c0_i32_199 c1_i32_200 k0_t1
  let c32_i32 : BitVec 32 := 32#32
  let v481 : BitVec 32 := Scalar.muli arg13 c32_i32
  v481
def k0_off1 (k0_t1 : Fin k0_t1_loop.trips) : Fin 2 → Nat :=
  let c0_i32_199 : BitVec 32 := 0#32
  let c1_i32_200 : BitVec 32 := 1#32
  let arg13 : BitVec 32 := Scf.iv c0_i32_199 c1_i32_200 k0_t1
  let c32_i32 : BitVec 32 := 32#32
  let v481 : BitVec 32 := Scalar.muli arg13 c32_i32
  let v482 : BitVec 32 := v481
  let v483 : Index := Scalar.indexCast v482
  let c0_223 : Index := 0#32
  ![v483.toNat, 0]
def k0_off2 (k0_t1 : Fin k0_t1_loop.trips) : Fin 2 → Nat :=
  let c0_i32_199 : BitVec 32 := 0#32
  let c1_i32_200 : BitVec 32 := 1#32
  let arg13 : BitVec 32 := Scf.iv c0_i32_199 c1_i32_200 k0_t1
  let c32_i32 : BitVec 32 := 32#32
  let v481 : BitVec 32 := Scalar.muli arg13 c32_i32
  let v482 : BitVec 32 := v481
  let v530 : Index := Scalar.indexCast v482
  let c0_237 : Index := 0#32
  ![v530.toNat, 0]
def k0_mult2 : BitVec 32 :=
  let c0_i32_21 : BitVec 32 := 0#32
  c0_i32_21
@[reducible] def k0_t2_loop : Scf.Loop 32 :=
  let c1_i32 : BitVec 32 := 1#32
  let c55_i32 : BitVec 32 := 55#32
  let v43 : BitVec 32 := Scalar.addi c1_i32 c55_i32
  let c1_i32_23 : BitVec 32 := 1#32
  ⟨c1_i32, v43, c1_i32_23⟩
def k0_mult3 (k0_t2 : Fin k0_t2_loop.trips) : BitVec 32 :=
  let c1_i32 : BitVec 32 := 1#32
  let c1_i32_23 : BitVec 32 := 1#32
  let arg13 : BitVec 32 := Scf.iv c1_i32 c1_i32_23 k0_t2
  let c128_i32 : BitVec 32 := 128#32
  let v453 : BitVec 32 := Scalar.muli arg13 c128_i32
  v453
def k0_off3 (k0_t2 : Fin k0_t2_loop.trips) : Fin 2 → Nat :=
  let c0_199 : Index := 0#32
  let c1_i32 : BitVec 32 := 1#32
  let c1_i32_23 : BitVec 32 := 1#32
  let arg13 : BitVec 32 := Scf.iv c1_i32 c1_i32_23 k0_t2
  let c128_i32 : BitVec 32 := 128#32
  let v453 : BitVec 32 := Scalar.muli arg13 c128_i32
  let v454 : BitVec 32 := v453
  let v455 : Index := Scalar.indexCast v454
  ![0, v455.toNat]
def k0_mult4 : BitVec 32 :=
  let c0_i32_25 : BitVec 32 := 0#32
  c0_i32_25
@[reducible] def k0_t3_loop : Scf.Loop 32 :=
  let c1_i32_26 : BitVec 32 := 1#32
  let c55_i32_27 : BitVec 32 := 55#32
  let v55 : BitVec 32 := Scalar.addi c1_i32_26 c55_i32_27
  let c1_i32_28 : BitVec 32 := 1#32
  ⟨c1_i32_26, v55, c1_i32_28⟩
def k0_mult5 (k0_t3 : Fin k0_t3_loop.trips) : BitVec 32 :=
  let c1_i32_26 : BitVec 32 := 1#32
  let c1_i32_28 : BitVec 32 := 1#32
  let arg13 : BitVec 32 := Scf.iv c1_i32_26 c1_i32_28 k0_t3
  let c128_i32 : BitVec 32 := 128#32
  let v453 : BitVec 32 := Scalar.muli arg13 c128_i32
  v453
def k0_off4 (k0_t3 : Fin k0_t3_loop.trips) : Fin 2 → Nat :=
  let c32_199 : Index := 32#32
  let c1_i32_26 : BitVec 32 := 1#32
  let c1_i32_28 : BitVec 32 := 1#32
  let arg13 : BitVec 32 := Scf.iv c1_i32_26 c1_i32_28 k0_t3
  let c128_i32 : BitVec 32 := 128#32
  let v453 : BitVec 32 := Scalar.muli arg13 c128_i32
  let v454 : BitVec 32 := v453
  let v455 : Index := Scalar.indexCast v454
  ![32, v455.toNat]
def k0_mult6 : BitVec 32 :=
  let c0_i32_30 : BitVec 32 := 0#32
  c0_i32_30
@[reducible] def k0_t4_loop : Scf.Loop 32 :=
  let c1_i32_31 : BitVec 32 := 1#32
  let c55_i32_32 : BitVec 32 := 55#32
  let v67 : BitVec 32 := Scalar.addi c1_i32_31 c55_i32_32
  let c1_i32_33 : BitVec 32 := 1#32
  ⟨c1_i32_31, v67, c1_i32_33⟩
def k0_mult7 (k0_t4 : Fin k0_t4_loop.trips) : BitVec 32 :=
  let c1_i32_31 : BitVec 32 := 1#32
  let c1_i32_33 : BitVec 32 := 1#32
  let arg13 : BitVec 32 := Scf.iv c1_i32_31 c1_i32_33 k0_t4
  let c128_i32 : BitVec 32 := 128#32
  let v453 : BitVec 32 := Scalar.muli arg13 c128_i32
  v453
def k0_off5 (k0_t4 : Fin k0_t4_loop.trips) : Fin 2 → Nat :=
  let c64_199 : Index := 64#32
  let c1_i32_31 : BitVec 32 := 1#32
  let c1_i32_33 : BitVec 32 := 1#32
  let arg13 : BitVec 32 := Scf.iv c1_i32_31 c1_i32_33 k0_t4
  let c128_i32 : BitVec 32 := 128#32
  let v453 : BitVec 32 := Scalar.muli arg13 c128_i32
  let v454 : BitVec 32 := v453
  let v455 : Index := Scalar.indexCast v454
  ![64, v455.toNat]
def k0_mult8 : BitVec 32 :=
  let c0_i32_35 : BitVec 32 := 0#32
  c0_i32_35
@[reducible] def k0_t5_loop : Scf.Loop 32 :=
  let c1_i32_36 : BitVec 32 := 1#32
  let c55_i32_37 : BitVec 32 := 55#32
  let v79 : BitVec 32 := Scalar.addi c1_i32_36 c55_i32_37
  let c1_i32_38 : BitVec 32 := 1#32
  ⟨c1_i32_36, v79, c1_i32_38⟩
def k0_mult9 (k0_t5 : Fin k0_t5_loop.trips) : BitVec 32 :=
  let c1_i32_36 : BitVec 32 := 1#32
  let c1_i32_38 : BitVec 32 := 1#32
  let arg13 : BitVec 32 := Scf.iv c1_i32_36 c1_i32_38 k0_t5
  let c128_i32 : BitVec 32 := 128#32
  let v453 : BitVec 32 := Scalar.muli arg13 c128_i32
  v453
def k0_off6 (k0_t5 : Fin k0_t5_loop.trips) : Fin 2 → Nat :=
  let c96_199 : Index := 96#32
  let c1_i32_36 : BitVec 32 := 1#32
  let c1_i32_38 : BitVec 32 := 1#32
  let arg13 : BitVec 32 := Scf.iv c1_i32_36 c1_i32_38 k0_t5
  let c128_i32 : BitVec 32 := 128#32
  let v453 : BitVec 32 := Scalar.muli arg13 c128_i32
  let v454 : BitVec 32 := v453
  let v455 : Index := Scalar.indexCast v454
  ![96, v455.toNat]
def k0_mult10 : BitVec 32 :=
  let c0_i32_40 : BitVec 32 := 0#32
  c0_i32_40
@[reducible] def k0_t6_loop : Scf.Loop 32 :=
  let c1_i32_41 : BitVec 32 := 1#32
  let c55_i32_42 : BitVec 32 := 55#32
  let v91 : BitVec 32 := Scalar.addi c1_i32_41 c55_i32_42
  let c1_i32_43 : BitVec 32 := 1#32
  ⟨c1_i32_41, v91, c1_i32_43⟩
def k0_mult11 (k0_t6 : Fin k0_t6_loop.trips) : BitVec 32 :=
  let c1_i32_41 : BitVec 32 := 1#32
  let c1_i32_43 : BitVec 32 := 1#32
  let arg13 : BitVec 32 := Scf.iv c1_i32_41 c1_i32_43 k0_t6
  let c128_i32 : BitVec 32 := 128#32
  let v453 : BitVec 32 := Scalar.muli arg13 c128_i32
  v453
def k0_off7 (k0_t6 : Fin k0_t6_loop.trips) : Fin 2 → Nat :=
  let c128_199 : Index := 128#32
  let c1_i32_41 : BitVec 32 := 1#32
  let c1_i32_43 : BitVec 32 := 1#32
  let arg13 : BitVec 32 := Scf.iv c1_i32_41 c1_i32_43 k0_t6
  let c128_i32 : BitVec 32 := 128#32
  let v453 : BitVec 32 := Scalar.muli arg13 c128_i32
  let v454 : BitVec 32 := v453
  let v455 : Index := Scalar.indexCast v454
  ![128, v455.toNat]
def k0_mult12 : BitVec 32 :=
  let c0_i32_45 : BitVec 32 := 0#32
  c0_i32_45
@[reducible] def k0_t7_loop : Scf.Loop 32 :=
  let c1_i32_46 : BitVec 32 := 1#32
  let c55_i32_47 : BitVec 32 := 55#32
  let v103 : BitVec 32 := Scalar.addi c1_i32_46 c55_i32_47
  let c1_i32_48 : BitVec 32 := 1#32
  ⟨c1_i32_46, v103, c1_i32_48⟩
def k0_mult13 (k0_t7 : Fin k0_t7_loop.trips) : BitVec 32 :=
  let c1_i32_46 : BitVec 32 := 1#32
  let c1_i32_48 : BitVec 32 := 1#32
  let arg13 : BitVec 32 := Scf.iv c1_i32_46 c1_i32_48 k0_t7
  let c128_i32 : BitVec 32 := 128#32
  let v453 : BitVec 32 := Scalar.muli arg13 c128_i32
  v453
def k0_off8 (k0_t7 : Fin k0_t7_loop.trips) : Fin 2 → Nat :=
  let c160_199 : Index := 160#32
  let c1_i32_46 : BitVec 32 := 1#32
  let c1_i32_48 : BitVec 32 := 1#32
  let arg13 : BitVec 32 := Scf.iv c1_i32_46 c1_i32_48 k0_t7
  let c128_i32 : BitVec 32 := 128#32
  let v453 : BitVec 32 := Scalar.muli arg13 c128_i32
  let v454 : BitVec 32 := v453
  let v455 : Index := Scalar.indexCast v454
  ![160, v455.toNat]
def k0_mult14 : BitVec 32 :=
  let c0_i32_50 : BitVec 32 := 0#32
  c0_i32_50
@[reducible] def k0_t8_loop : Scf.Loop 32 :=
  let c1_i32_51 : BitVec 32 := 1#32
  let c55_i32_52 : BitVec 32 := 55#32
  let v115 : BitVec 32 := Scalar.addi c1_i32_51 c55_i32_52
  let c1_i32_53 : BitVec 32 := 1#32
  ⟨c1_i32_51, v115, c1_i32_53⟩
def k0_mult15 (k0_t8 : Fin k0_t8_loop.trips) : BitVec 32 :=
  let c1_i32_51 : BitVec 32 := 1#32
  let c1_i32_53 : BitVec 32 := 1#32
  let arg13 : BitVec 32 := Scf.iv c1_i32_51 c1_i32_53 k0_t8
  let c128_i32 : BitVec 32 := 128#32
  let v453 : BitVec 32 := Scalar.muli arg13 c128_i32
  v453
def k0_off9 (k0_t8 : Fin k0_t8_loop.trips) : Fin 2 → Nat :=
  let c192_199 : Index := 192#32
  let c1_i32_51 : BitVec 32 := 1#32
  let c1_i32_53 : BitVec 32 := 1#32
  let arg13 : BitVec 32 := Scf.iv c1_i32_51 c1_i32_53 k0_t8
  let c128_i32 : BitVec 32 := 128#32
  let v453 : BitVec 32 := Scalar.muli arg13 c128_i32
  let v454 : BitVec 32 := v453
  let v455 : Index := Scalar.indexCast v454
  ![192, v455.toNat]
def k0_mult16 : BitVec 32 :=
  let c0_i32_55 : BitVec 32 := 0#32
  c0_i32_55
@[reducible] def k0_t9_loop : Scf.Loop 32 :=
  let c1_i32_56 : BitVec 32 := 1#32
  let c55_i32_57 : BitVec 32 := 55#32
  let v127 : BitVec 32 := Scalar.addi c1_i32_56 c55_i32_57
  let c1_i32_58 : BitVec 32 := 1#32
  ⟨c1_i32_56, v127, c1_i32_58⟩
def k0_mult17 (k0_t9 : Fin k0_t9_loop.trips) : BitVec 32 :=
  let c1_i32_56 : BitVec 32 := 1#32
  let c1_i32_58 : BitVec 32 := 1#32
  let arg13 : BitVec 32 := Scf.iv c1_i32_56 c1_i32_58 k0_t9
  let c128_i32 : BitVec 32 := 128#32
  let v453 : BitVec 32 := Scalar.muli arg13 c128_i32
  v453
def k0_off10 (k0_t9 : Fin k0_t9_loop.trips) : Fin 2 → Nat :=
  let c224_199 : Index := 224#32
  let c1_i32_56 : BitVec 32 := 1#32
  let c1_i32_58 : BitVec 32 := 1#32
  let arg13 : BitVec 32 := Scf.iv c1_i32_56 c1_i32_58 k0_t9
  let c128_i32 : BitVec 32 := 128#32
  let v453 : BitVec 32 := Scalar.muli arg13 c128_i32
  let v454 : BitVec 32 := v453
  let v455 : Index := Scalar.indexCast v454
  ![224, v455.toNat]
def k0_mult18 : BitVec 32 :=
  let c0_i32_60 : BitVec 32 := 0#32
  c0_i32_60
@[reducible] def k0_t10_loop : Scf.Loop 32 :=
  let c1_i32_61 : BitVec 32 := 1#32
  let c55_i32_62 : BitVec 32 := 55#32
  let v139 : BitVec 32 := Scalar.addi c1_i32_61 c55_i32_62
  let c1_i32_63 : BitVec 32 := 1#32
  ⟨c1_i32_61, v139, c1_i32_63⟩
def k0_mult19 (k0_t10 : Fin k0_t10_loop.trips) : BitVec 32 :=
  let c1_i32_61 : BitVec 32 := 1#32
  let c1_i32_63 : BitVec 32 := 1#32
  let arg13 : BitVec 32 := Scf.iv c1_i32_61 c1_i32_63 k0_t10
  let c128_i32 : BitVec 32 := 128#32
  let v453 : BitVec 32 := Scalar.muli arg13 c128_i32
  v453
def k0_off11 (k0_t10 : Fin k0_t10_loop.trips) : Fin 2 → Nat :=
  let c256_199 : Index := 256#32
  let c1_i32_61 : BitVec 32 := 1#32
  let c1_i32_63 : BitVec 32 := 1#32
  let arg13 : BitVec 32 := Scf.iv c1_i32_61 c1_i32_63 k0_t10
  let c128_i32 : BitVec 32 := 128#32
  let v453 : BitVec 32 := Scalar.muli arg13 c128_i32
  let v454 : BitVec 32 := v453
  let v455 : Index := Scalar.indexCast v454
  ![256, v455.toNat]
def k0_mult20 : BitVec 32 :=
  let c0_i32_65 : BitVec 32 := 0#32
  c0_i32_65
@[reducible] def k0_t11_loop : Scf.Loop 32 :=
  let c1_i32_66 : BitVec 32 := 1#32
  let c55_i32_67 : BitVec 32 := 55#32
  let v151 : BitVec 32 := Scalar.addi c1_i32_66 c55_i32_67
  let c1_i32_68 : BitVec 32 := 1#32
  ⟨c1_i32_66, v151, c1_i32_68⟩
def k0_mult21 (k0_t11 : Fin k0_t11_loop.trips) : BitVec 32 :=
  let c1_i32_66 : BitVec 32 := 1#32
  let c1_i32_68 : BitVec 32 := 1#32
  let arg13 : BitVec 32 := Scf.iv c1_i32_66 c1_i32_68 k0_t11
  let c128_i32 : BitVec 32 := 128#32
  let v453 : BitVec 32 := Scalar.muli arg13 c128_i32
  v453
def k0_off12 (k0_t11 : Fin k0_t11_loop.trips) : Fin 2 → Nat :=
  let c288_199 : Index := 288#32
  let c1_i32_66 : BitVec 32 := 1#32
  let c1_i32_68 : BitVec 32 := 1#32
  let arg13 : BitVec 32 := Scf.iv c1_i32_66 c1_i32_68 k0_t11
  let c128_i32 : BitVec 32 := 128#32
  let v453 : BitVec 32 := Scalar.muli arg13 c128_i32
  let v454 : BitVec 32 := v453
  let v455 : Index := Scalar.indexCast v454
  ![288, v455.toNat]
def k0_mult22 : BitVec 32 :=
  let c0_i32_70 : BitVec 32 := 0#32
  c0_i32_70
@[reducible] def k0_t12_loop : Scf.Loop 32 :=
  let c1_i32_71 : BitVec 32 := 1#32
  let c55_i32_72 : BitVec 32 := 55#32
  let v163 : BitVec 32 := Scalar.addi c1_i32_71 c55_i32_72
  let c1_i32_73 : BitVec 32 := 1#32
  ⟨c1_i32_71, v163, c1_i32_73⟩
def k0_mult23 (k0_t12 : Fin k0_t12_loop.trips) : BitVec 32 :=
  let c1_i32_71 : BitVec 32 := 1#32
  let c1_i32_73 : BitVec 32 := 1#32
  let arg13 : BitVec 32 := Scf.iv c1_i32_71 c1_i32_73 k0_t12
  let c128_i32 : BitVec 32 := 128#32
  let v453 : BitVec 32 := Scalar.muli arg13 c128_i32
  v453
def k0_off13 (k0_t12 : Fin k0_t12_loop.trips) : Fin 2 → Nat :=
  let c320_199 : Index := 320#32
  let c1_i32_71 : BitVec 32 := 1#32
  let c1_i32_73 : BitVec 32 := 1#32
  let arg13 : BitVec 32 := Scf.iv c1_i32_71 c1_i32_73 k0_t12
  let c128_i32 : BitVec 32 := 128#32
  let v453 : BitVec 32 := Scalar.muli arg13 c128_i32
  let v454 : BitVec 32 := v453
  let v455 : Index := Scalar.indexCast v454
  ![320, v455.toNat]
def k0_mult24 : BitVec 32 :=
  let c0_i32_75 : BitVec 32 := 0#32
  c0_i32_75
@[reducible] def k0_t13_loop : Scf.Loop 32 :=
  let c1_i32_76 : BitVec 32 := 1#32
  let c55_i32_77 : BitVec 32 := 55#32
  let v175 : BitVec 32 := Scalar.addi c1_i32_76 c55_i32_77
  let c1_i32_78 : BitVec 32 := 1#32
  ⟨c1_i32_76, v175, c1_i32_78⟩
def k0_mult25 (k0_t13 : Fin k0_t13_loop.trips) : BitVec 32 :=
  let c1_i32_76 : BitVec 32 := 1#32
  let c1_i32_78 : BitVec 32 := 1#32
  let arg13 : BitVec 32 := Scf.iv c1_i32_76 c1_i32_78 k0_t13
  let c128_i32 : BitVec 32 := 128#32
  let v453 : BitVec 32 := Scalar.muli arg13 c128_i32
  v453
def k0_off14 (k0_t13 : Fin k0_t13_loop.trips) : Fin 2 → Nat :=
  let c352_199 : Index := 352#32
  let c1_i32_76 : BitVec 32 := 1#32
  let c1_i32_78 : BitVec 32 := 1#32
  let arg13 : BitVec 32 := Scf.iv c1_i32_76 c1_i32_78 k0_t13
  let c128_i32 : BitVec 32 := 128#32
  let v453 : BitVec 32 := Scalar.muli arg13 c128_i32
  let v454 : BitVec 32 := v453
  let v455 : Index := Scalar.indexCast v454
  ![352, v455.toNat]
def k0_mult26 : BitVec 32 :=
  let c0_i32_80 : BitVec 32 := 0#32
  c0_i32_80
@[reducible] def k0_t14_loop : Scf.Loop 32 :=
  let c1_i32_81 : BitVec 32 := 1#32
  let c55_i32_82 : BitVec 32 := 55#32
  let v187 : BitVec 32 := Scalar.addi c1_i32_81 c55_i32_82
  let c1_i32_83 : BitVec 32 := 1#32
  ⟨c1_i32_81, v187, c1_i32_83⟩
def k0_mult27 (k0_t14 : Fin k0_t14_loop.trips) : BitVec 32 :=
  let c1_i32_81 : BitVec 32 := 1#32
  let c1_i32_83 : BitVec 32 := 1#32
  let arg13 : BitVec 32 := Scf.iv c1_i32_81 c1_i32_83 k0_t14
  let c128_i32 : BitVec 32 := 128#32
  let v453 : BitVec 32 := Scalar.muli arg13 c128_i32
  v453
def k0_off15 (k0_t14 : Fin k0_t14_loop.trips) : Fin 2 → Nat :=
  let c384_199 : Index := 384#32
  let c1_i32_81 : BitVec 32 := 1#32
  let c1_i32_83 : BitVec 32 := 1#32
  let arg13 : BitVec 32 := Scf.iv c1_i32_81 c1_i32_83 k0_t14
  let c128_i32 : BitVec 32 := 128#32
  let v453 : BitVec 32 := Scalar.muli arg13 c128_i32
  let v454 : BitVec 32 := v453
  let v455 : Index := Scalar.indexCast v454
  ![384, v455.toNat]
def k0_mult28 : BitVec 32 :=
  let c0_i32_85 : BitVec 32 := 0#32
  c0_i32_85
@[reducible] def k0_t15_loop : Scf.Loop 32 :=
  let c1_i32_86 : BitVec 32 := 1#32
  let c55_i32_87 : BitVec 32 := 55#32
  let v199 : BitVec 32 := Scalar.addi c1_i32_86 c55_i32_87
  let c1_i32_88 : BitVec 32 := 1#32
  ⟨c1_i32_86, v199, c1_i32_88⟩
def k0_mult29 (k0_t15 : Fin k0_t15_loop.trips) : BitVec 32 :=
  let c1_i32_86 : BitVec 32 := 1#32
  let c1_i32_88 : BitVec 32 := 1#32
  let arg13 : BitVec 32 := Scf.iv c1_i32_86 c1_i32_88 k0_t15
  let c128_i32 : BitVec 32 := 128#32
  let v453 : BitVec 32 := Scalar.muli arg13 c128_i32
  v453
def k0_off16 (k0_t15 : Fin k0_t15_loop.trips) : Fin 2 → Nat :=
  let c416_199 : Index := 416#32
  let c1_i32_86 : BitVec 32 := 1#32
  let c1_i32_88 : BitVec 32 := 1#32
  let arg13 : BitVec 32 := Scf.iv c1_i32_86 c1_i32_88 k0_t15
  let c128_i32 : BitVec 32 := 128#32
  let v453 : BitVec 32 := Scalar.muli arg13 c128_i32
  let v454 : BitVec 32 := v453
  let v455 : Index := Scalar.indexCast v454
  ![416, v455.toNat]
def k0_mult30 : BitVec 32 :=
  let c0_i32_90 : BitVec 32 := 0#32
  c0_i32_90
@[reducible] def k0_t16_loop : Scf.Loop 32 :=
  let c1_i32_91 : BitVec 32 := 1#32
  let c55_i32_92 : BitVec 32 := 55#32
  let v211 : BitVec 32 := Scalar.addi c1_i32_91 c55_i32_92
  let c1_i32_93 : BitVec 32 := 1#32
  ⟨c1_i32_91, v211, c1_i32_93⟩
def k0_mult31 (k0_t16 : Fin k0_t16_loop.trips) : BitVec 32 :=
  let c1_i32_91 : BitVec 32 := 1#32
  let c1_i32_93 : BitVec 32 := 1#32
  let arg13 : BitVec 32 := Scf.iv c1_i32_91 c1_i32_93 k0_t16
  let c128_i32 : BitVec 32 := 128#32
  let v453 : BitVec 32 := Scalar.muli arg13 c128_i32
  v453
def k0_off17 (k0_t16 : Fin k0_t16_loop.trips) : Fin 2 → Nat :=
  let c448_199 : Index := 448#32
  let c1_i32_91 : BitVec 32 := 1#32
  let c1_i32_93 : BitVec 32 := 1#32
  let arg13 : BitVec 32 := Scf.iv c1_i32_91 c1_i32_93 k0_t16
  let c128_i32 : BitVec 32 := 128#32
  let v453 : BitVec 32 := Scalar.muli arg13 c128_i32
  let v454 : BitVec 32 := v453
  let v455 : Index := Scalar.indexCast v454
  ![448, v455.toNat]
def k0_mult32 : BitVec 32 :=
  let c0_i32_95 : BitVec 32 := 0#32
  c0_i32_95
@[reducible] def k0_t17_loop : Scf.Loop 32 :=
  let c1_i32_96 : BitVec 32 := 1#32
  let c55_i32_97 : BitVec 32 := 55#32
  let v223 : BitVec 32 := Scalar.addi c1_i32_96 c55_i32_97
  let c1_i32_98 : BitVec 32 := 1#32
  ⟨c1_i32_96, v223, c1_i32_98⟩
def k0_mult33 (k0_t17 : Fin k0_t17_loop.trips) : BitVec 32 :=
  let c1_i32_96 : BitVec 32 := 1#32
  let c1_i32_98 : BitVec 32 := 1#32
  let arg13 : BitVec 32 := Scf.iv c1_i32_96 c1_i32_98 k0_t17
  let c128_i32 : BitVec 32 := 128#32
  let v453 : BitVec 32 := Scalar.muli arg13 c128_i32
  v453
def k0_off18 (k0_t17 : Fin k0_t17_loop.trips) : Fin 2 → Nat :=
  let c480_199 : Index := 480#32
  let c1_i32_96 : BitVec 32 := 1#32
  let c1_i32_98 : BitVec 32 := 1#32
  let arg13 : BitVec 32 := Scf.iv c1_i32_96 c1_i32_98 k0_t17
  let c128_i32 : BitVec 32 := 128#32
  let v453 : BitVec 32 := Scalar.muli arg13 c128_i32
  let v454 : BitVec 32 := v453
  let v455 : Index := Scalar.indexCast v454
  ![480, v455.toNat]
def k0_mult34 : BitVec 32 :=
  let c0_i32_100 : BitVec 32 := 0#32
  c0_i32_100
@[reducible] def k0_t18_loop : Scf.Loop 32 :=
  let c1_i32_101 : BitVec 32 := 1#32
  let c55_i32_102 : BitVec 32 := 55#32
  let v235 : BitVec 32 := Scalar.addi c1_i32_101 c55_i32_102
  let c1_i32_103 : BitVec 32 := 1#32
  ⟨c1_i32_101, v235, c1_i32_103⟩
def k0_mult35 (k0_t18 : Fin k0_t18_loop.trips) : BitVec 32 :=
  let c1_i32_101 : BitVec 32 := 1#32
  let c1_i32_103 : BitVec 32 := 1#32
  let arg13 : BitVec 32 := Scf.iv c1_i32_101 c1_i32_103 k0_t18
  let c128_i32 : BitVec 32 := 128#32
  let v453 : BitVec 32 := Scalar.muli arg13 c128_i32
  v453
def k0_off19 (k0_t18 : Fin k0_t18_loop.trips) : Fin 2 → Nat :=
  let c512_199 : Index := 512#32
  let c1_i32_101 : BitVec 32 := 1#32
  let c1_i32_103 : BitVec 32 := 1#32
  let arg13 : BitVec 32 := Scf.iv c1_i32_101 c1_i32_103 k0_t18
  let c128_i32 : BitVec 32 := 128#32
  let v453 : BitVec 32 := Scalar.muli arg13 c128_i32
  let v454 : BitVec 32 := v453
  let v455 : Index := Scalar.indexCast v454
  ![512, v455.toNat]
def k0_mult36 : BitVec 32 :=
  let c0_i32_105 : BitVec 32 := 0#32
  c0_i32_105
@[reducible] def k0_t19_loop : Scf.Loop 32 :=
  let c1_i32_106 : BitVec 32 := 1#32
  let c55_i32_107 : BitVec 32 := 55#32
  let v247 : BitVec 32 := Scalar.addi c1_i32_106 c55_i32_107
  let c1_i32_108 : BitVec 32 := 1#32
  ⟨c1_i32_106, v247, c1_i32_108⟩
def k0_mult37 (k0_t19 : Fin k0_t19_loop.trips) : BitVec 32 :=
  let c1_i32_106 : BitVec 32 := 1#32
  let c1_i32_108 : BitVec 32 := 1#32
  let arg13 : BitVec 32 := Scf.iv c1_i32_106 c1_i32_108 k0_t19
  let c128_i32 : BitVec 32 := 128#32
  let v453 : BitVec 32 := Scalar.muli arg13 c128_i32
  v453
def k0_off20 (k0_t19 : Fin k0_t19_loop.trips) : Fin 2 → Nat :=
  let c544_199 : Index := 544#32
  let c1_i32_106 : BitVec 32 := 1#32
  let c1_i32_108 : BitVec 32 := 1#32
  let arg13 : BitVec 32 := Scf.iv c1_i32_106 c1_i32_108 k0_t19
  let c128_i32 : BitVec 32 := 128#32
  let v453 : BitVec 32 := Scalar.muli arg13 c128_i32
  let v454 : BitVec 32 := v453
  let v455 : Index := Scalar.indexCast v454
  ![544, v455.toNat]
def k0_mult38 : BitVec 32 :=
  let c0_i32_110 : BitVec 32 := 0#32
  c0_i32_110
@[reducible] def k0_t20_loop : Scf.Loop 32 :=
  let c1_i32_111 : BitVec 32 := 1#32
  let c55_i32_112 : BitVec 32 := 55#32
  let v259 : BitVec 32 := Scalar.addi c1_i32_111 c55_i32_112
  let c1_i32_113 : BitVec 32 := 1#32
  ⟨c1_i32_111, v259, c1_i32_113⟩
def k0_mult39 (k0_t20 : Fin k0_t20_loop.trips) : BitVec 32 :=
  let c1_i32_111 : BitVec 32 := 1#32
  let c1_i32_113 : BitVec 32 := 1#32
  let arg13 : BitVec 32 := Scf.iv c1_i32_111 c1_i32_113 k0_t20
  let c128_i32 : BitVec 32 := 128#32
  let v453 : BitVec 32 := Scalar.muli arg13 c128_i32
  v453
def k0_off21 (k0_t20 : Fin k0_t20_loop.trips) : Fin 2 → Nat :=
  let c576_199 : Index := 576#32
  let c1_i32_111 : BitVec 32 := 1#32
  let c1_i32_113 : BitVec 32 := 1#32
  let arg13 : BitVec 32 := Scf.iv c1_i32_111 c1_i32_113 k0_t20
  let c128_i32 : BitVec 32 := 128#32
  let v453 : BitVec 32 := Scalar.muli arg13 c128_i32
  let v454 : BitVec 32 := v453
  let v455 : Index := Scalar.indexCast v454
  ![576, v455.toNat]
def k0_mult40 : BitVec 32 :=
  let c0_i32_115 : BitVec 32 := 0#32
  c0_i32_115
@[reducible] def k0_t21_loop : Scf.Loop 32 :=
  let c1_i32_116 : BitVec 32 := 1#32
  let c55_i32_117 : BitVec 32 := 55#32
  let v271 : BitVec 32 := Scalar.addi c1_i32_116 c55_i32_117
  let c1_i32_118 : BitVec 32 := 1#32
  ⟨c1_i32_116, v271, c1_i32_118⟩
def k0_mult41 (k0_t21 : Fin k0_t21_loop.trips) : BitVec 32 :=
  let c1_i32_116 : BitVec 32 := 1#32
  let c1_i32_118 : BitVec 32 := 1#32
  let arg13 : BitVec 32 := Scf.iv c1_i32_116 c1_i32_118 k0_t21
  let c128_i32 : BitVec 32 := 128#32
  let v453 : BitVec 32 := Scalar.muli arg13 c128_i32
  v453
def k0_off22 (k0_t21 : Fin k0_t21_loop.trips) : Fin 2 → Nat :=
  let c608_199 : Index := 608#32
  let c1_i32_116 : BitVec 32 := 1#32
  let c1_i32_118 : BitVec 32 := 1#32
  let arg13 : BitVec 32 := Scf.iv c1_i32_116 c1_i32_118 k0_t21
  let c128_i32 : BitVec 32 := 128#32
  let v453 : BitVec 32 := Scalar.muli arg13 c128_i32
  let v454 : BitVec 32 := v453
  let v455 : Index := Scalar.indexCast v454
  ![608, v455.toNat]
def k0_mult42 : BitVec 32 :=
  let c0_i32_120 : BitVec 32 := 0#32
  c0_i32_120
@[reducible] def k0_t22_loop : Scf.Loop 32 :=
  let c1_i32_121 : BitVec 32 := 1#32
  let c55_i32_122 : BitVec 32 := 55#32
  let v283 : BitVec 32 := Scalar.addi c1_i32_121 c55_i32_122
  let c1_i32_123 : BitVec 32 := 1#32
  ⟨c1_i32_121, v283, c1_i32_123⟩
def k0_mult43 (k0_t22 : Fin k0_t22_loop.trips) : BitVec 32 :=
  let c1_i32_121 : BitVec 32 := 1#32
  let c1_i32_123 : BitVec 32 := 1#32
  let arg13 : BitVec 32 := Scf.iv c1_i32_121 c1_i32_123 k0_t22
  let c128_i32 : BitVec 32 := 128#32
  let v453 : BitVec 32 := Scalar.muli arg13 c128_i32
  v453
def k0_off23 (k0_t22 : Fin k0_t22_loop.trips) : Fin 2 → Nat :=
  let c640_199 : Index := 640#32
  let c1_i32_121 : BitVec 32 := 1#32
  let c1_i32_123 : BitVec 32 := 1#32
  let arg13 : BitVec 32 := Scf.iv c1_i32_121 c1_i32_123 k0_t22
  let c128_i32 : BitVec 32 := 128#32
  let v453 : BitVec 32 := Scalar.muli arg13 c128_i32
  let v454 : BitVec 32 := v453
  let v455 : Index := Scalar.indexCast v454
  ![640, v455.toNat]
def k0_mult44 : BitVec 32 :=
  let c0_i32_125 : BitVec 32 := 0#32
  c0_i32_125
@[reducible] def k0_t23_loop : Scf.Loop 32 :=
  let c1_i32_126 : BitVec 32 := 1#32
  let c55_i32_127 : BitVec 32 := 55#32
  let v295 : BitVec 32 := Scalar.addi c1_i32_126 c55_i32_127
  let c1_i32_128 : BitVec 32 := 1#32
  ⟨c1_i32_126, v295, c1_i32_128⟩
def k0_mult45 (k0_t23 : Fin k0_t23_loop.trips) : BitVec 32 :=
  let c1_i32_126 : BitVec 32 := 1#32
  let c1_i32_128 : BitVec 32 := 1#32
  let arg13 : BitVec 32 := Scf.iv c1_i32_126 c1_i32_128 k0_t23
  let c128_i32 : BitVec 32 := 128#32
  let v453 : BitVec 32 := Scalar.muli arg13 c128_i32
  v453
def k0_off24 (k0_t23 : Fin k0_t23_loop.trips) : Fin 2 → Nat :=
  let c672_199 : Index := 672#32
  let c1_i32_126 : BitVec 32 := 1#32
  let c1_i32_128 : BitVec 32 := 1#32
  let arg13 : BitVec 32 := Scf.iv c1_i32_126 c1_i32_128 k0_t23
  let c128_i32 : BitVec 32 := 128#32
  let v453 : BitVec 32 := Scalar.muli arg13 c128_i32
  let v454 : BitVec 32 := v453
  let v455 : Index := Scalar.indexCast v454
  ![672, v455.toNat]
def k0_mult46 : BitVec 32 :=
  let c0_i32_130 : BitVec 32 := 0#32
  c0_i32_130
@[reducible] def k0_t24_loop : Scf.Loop 32 :=
  let c1_i32_131 : BitVec 32 := 1#32
  let c55_i32_132 : BitVec 32 := 55#32
  let v307 : BitVec 32 := Scalar.addi c1_i32_131 c55_i32_132
  let c1_i32_133 : BitVec 32 := 1#32
  ⟨c1_i32_131, v307, c1_i32_133⟩
def k0_mult47 (k0_t24 : Fin k0_t24_loop.trips) : BitVec 32 :=
  let c1_i32_131 : BitVec 32 := 1#32
  let c1_i32_133 : BitVec 32 := 1#32
  let arg13 : BitVec 32 := Scf.iv c1_i32_131 c1_i32_133 k0_t24
  let c128_i32 : BitVec 32 := 128#32
  let v453 : BitVec 32 := Scalar.muli arg13 c128_i32
  v453
def k0_off25 (k0_t24 : Fin k0_t24_loop.trips) : Fin 2 → Nat :=
  let c704_199 : Index := 704#32
  let c1_i32_131 : BitVec 32 := 1#32
  let c1_i32_133 : BitVec 32 := 1#32
  let arg13 : BitVec 32 := Scf.iv c1_i32_131 c1_i32_133 k0_t24
  let c128_i32 : BitVec 32 := 128#32
  let v453 : BitVec 32 := Scalar.muli arg13 c128_i32
  let v454 : BitVec 32 := v453
  let v455 : Index := Scalar.indexCast v454
  ![704, v455.toNat]
def k0_mult48 : BitVec 32 :=
  let c0_i32_135 : BitVec 32 := 0#32
  c0_i32_135
@[reducible] def k0_t25_loop : Scf.Loop 32 :=
  let c1_i32_136 : BitVec 32 := 1#32
  let c55_i32_137 : BitVec 32 := 55#32
  let v319 : BitVec 32 := Scalar.addi c1_i32_136 c55_i32_137
  let c1_i32_138 : BitVec 32 := 1#32
  ⟨c1_i32_136, v319, c1_i32_138⟩
def k0_mult49 (k0_t25 : Fin k0_t25_loop.trips) : BitVec 32 :=
  let c1_i32_136 : BitVec 32 := 1#32
  let c1_i32_138 : BitVec 32 := 1#32
  let arg13 : BitVec 32 := Scf.iv c1_i32_136 c1_i32_138 k0_t25
  let c128_i32 : BitVec 32 := 128#32
  let v453 : BitVec 32 := Scalar.muli arg13 c128_i32
  v453
def k0_off26 (k0_t25 : Fin k0_t25_loop.trips) : Fin 2 → Nat :=
  let c736_199 : Index := 736#32
  let c1_i32_136 : BitVec 32 := 1#32
  let c1_i32_138 : BitVec 32 := 1#32
  let arg13 : BitVec 32 := Scf.iv c1_i32_136 c1_i32_138 k0_t25
  let c128_i32 : BitVec 32 := 128#32
  let v453 : BitVec 32 := Scalar.muli arg13 c128_i32
  let v454 : BitVec 32 := v453
  let v455 : Index := Scalar.indexCast v454
  ![736, v455.toNat]
def k0_mult50 : BitVec 32 :=
  let c0_i32_140 : BitVec 32 := 0#32
  c0_i32_140
@[reducible] def k0_t26_loop : Scf.Loop 32 :=
  let c1_i32_141 : BitVec 32 := 1#32
  let c55_i32_142 : BitVec 32 := 55#32
  let v331 : BitVec 32 := Scalar.addi c1_i32_141 c55_i32_142
  let c1_i32_143 : BitVec 32 := 1#32
  ⟨c1_i32_141, v331, c1_i32_143⟩
def k0_mult51 (k0_t26 : Fin k0_t26_loop.trips) : BitVec 32 :=
  let c1_i32_141 : BitVec 32 := 1#32
  let c1_i32_143 : BitVec 32 := 1#32
  let arg13 : BitVec 32 := Scf.iv c1_i32_141 c1_i32_143 k0_t26
  let c128_i32 : BitVec 32 := 128#32
  let v453 : BitVec 32 := Scalar.muli arg13 c128_i32
  v453
def k0_off27 (k0_t26 : Fin k0_t26_loop.trips) : Fin 2 → Nat :=
  let c768_199 : Index := 768#32
  let c1_i32_141 : BitVec 32 := 1#32
  let c1_i32_143 : BitVec 32 := 1#32
  let arg13 : BitVec 32 := Scf.iv c1_i32_141 c1_i32_143 k0_t26
  let c128_i32 : BitVec 32 := 128#32
  let v453 : BitVec 32 := Scalar.muli arg13 c128_i32
  let v454 : BitVec 32 := v453
  let v455 : Index := Scalar.indexCast v454
  ![768, v455.toNat]
def k0_mult52 : BitVec 32 :=
  let c0_i32_145 : BitVec 32 := 0#32
  c0_i32_145
@[reducible] def k0_t27_loop : Scf.Loop 32 :=
  let c1_i32_146 : BitVec 32 := 1#32
  let c55_i32_147 : BitVec 32 := 55#32
  let v343 : BitVec 32 := Scalar.addi c1_i32_146 c55_i32_147
  let c1_i32_148 : BitVec 32 := 1#32
  ⟨c1_i32_146, v343, c1_i32_148⟩
def k0_mult53 (k0_t27 : Fin k0_t27_loop.trips) : BitVec 32 :=
  let c1_i32_146 : BitVec 32 := 1#32
  let c1_i32_148 : BitVec 32 := 1#32
  let arg13 : BitVec 32 := Scf.iv c1_i32_146 c1_i32_148 k0_t27
  let c128_i32 : BitVec 32 := 128#32
  let v453 : BitVec 32 := Scalar.muli arg13 c128_i32
  v453
def k0_off28 (k0_t27 : Fin k0_t27_loop.trips) : Fin 2 → Nat :=
  let c800_199 : Index := 800#32
  let c1_i32_146 : BitVec 32 := 1#32
  let c1_i32_148 : BitVec 32 := 1#32
  let arg13 : BitVec 32 := Scf.iv c1_i32_146 c1_i32_148 k0_t27
  let c128_i32 : BitVec 32 := 128#32
  let v453 : BitVec 32 := Scalar.muli arg13 c128_i32
  let v454 : BitVec 32 := v453
  let v455 : Index := Scalar.indexCast v454
  ![800, v455.toNat]
def k0_mult54 : BitVec 32 :=
  let c0_i32_150 : BitVec 32 := 0#32
  c0_i32_150
@[reducible] def k0_t28_loop : Scf.Loop 32 :=
  let c1_i32_151 : BitVec 32 := 1#32
  let c55_i32_152 : BitVec 32 := 55#32
  let v355 : BitVec 32 := Scalar.addi c1_i32_151 c55_i32_152
  let c1_i32_153 : BitVec 32 := 1#32
  ⟨c1_i32_151, v355, c1_i32_153⟩
def k0_mult55 (k0_t28 : Fin k0_t28_loop.trips) : BitVec 32 :=
  let c1_i32_151 : BitVec 32 := 1#32
  let c1_i32_153 : BitVec 32 := 1#32
  let arg13 : BitVec 32 := Scf.iv c1_i32_151 c1_i32_153 k0_t28
  let c128_i32 : BitVec 32 := 128#32
  let v453 : BitVec 32 := Scalar.muli arg13 c128_i32
  v453
def k0_off29 (k0_t28 : Fin k0_t28_loop.trips) : Fin 2 → Nat :=
  let c832_199 : Index := 832#32
  let c1_i32_151 : BitVec 32 := 1#32
  let c1_i32_153 : BitVec 32 := 1#32
  let arg13 : BitVec 32 := Scf.iv c1_i32_151 c1_i32_153 k0_t28
  let c128_i32 : BitVec 32 := 128#32
  let v453 : BitVec 32 := Scalar.muli arg13 c128_i32
  let v454 : BitVec 32 := v453
  let v455 : Index := Scalar.indexCast v454
  ![832, v455.toNat]
def k0_mult56 : BitVec 32 :=
  let c0_i32_155 : BitVec 32 := 0#32
  c0_i32_155
@[reducible] def k0_t29_loop : Scf.Loop 32 :=
  let c1_i32_156 : BitVec 32 := 1#32
  let c55_i32_157 : BitVec 32 := 55#32
  let v367 : BitVec 32 := Scalar.addi c1_i32_156 c55_i32_157
  let c1_i32_158 : BitVec 32 := 1#32
  ⟨c1_i32_156, v367, c1_i32_158⟩
def k0_mult57 (k0_t29 : Fin k0_t29_loop.trips) : BitVec 32 :=
  let c1_i32_156 : BitVec 32 := 1#32
  let c1_i32_158 : BitVec 32 := 1#32
  let arg13 : BitVec 32 := Scf.iv c1_i32_156 c1_i32_158 k0_t29
  let c128_i32 : BitVec 32 := 128#32
  let v453 : BitVec 32 := Scalar.muli arg13 c128_i32
  v453
def k0_off30 (k0_t29 : Fin k0_t29_loop.trips) : Fin 2 → Nat :=
  let c864_199 : Index := 864#32
  let c1_i32_156 : BitVec 32 := 1#32
  let c1_i32_158 : BitVec 32 := 1#32
  let arg13 : BitVec 32 := Scf.iv c1_i32_156 c1_i32_158 k0_t29
  let c128_i32 : BitVec 32 := 128#32
  let v453 : BitVec 32 := Scalar.muli arg13 c128_i32
  let v454 : BitVec 32 := v453
  let v455 : Index := Scalar.indexCast v454
  ![864, v455.toNat]
def k0_mult58 : BitVec 32 :=
  let c0_i32_160 : BitVec 32 := 0#32
  c0_i32_160
@[reducible] def k0_t30_loop : Scf.Loop 32 :=
  let c1_i32_161 : BitVec 32 := 1#32
  let c55_i32_162 : BitVec 32 := 55#32
  let v379 : BitVec 32 := Scalar.addi c1_i32_161 c55_i32_162
  let c1_i32_163 : BitVec 32 := 1#32
  ⟨c1_i32_161, v379, c1_i32_163⟩
def k0_mult59 (k0_t30 : Fin k0_t30_loop.trips) : BitVec 32 :=
  let c1_i32_161 : BitVec 32 := 1#32
  let c1_i32_163 : BitVec 32 := 1#32
  let arg13 : BitVec 32 := Scf.iv c1_i32_161 c1_i32_163 k0_t30
  let c128_i32 : BitVec 32 := 128#32
  let v453 : BitVec 32 := Scalar.muli arg13 c128_i32
  v453
def k0_off31 (k0_t30 : Fin k0_t30_loop.trips) : Fin 2 → Nat :=
  let c896_199 : Index := 896#32
  let c1_i32_161 : BitVec 32 := 1#32
  let c1_i32_163 : BitVec 32 := 1#32
  let arg13 : BitVec 32 := Scf.iv c1_i32_161 c1_i32_163 k0_t30
  let c128_i32 : BitVec 32 := 128#32
  let v453 : BitVec 32 := Scalar.muli arg13 c128_i32
  let v454 : BitVec 32 := v453
  let v455 : Index := Scalar.indexCast v454
  ![896, v455.toNat]
def k0_mult60 : BitVec 32 :=
  let c0_i32_165 : BitVec 32 := 0#32
  c0_i32_165
@[reducible] def k0_t31_loop : Scf.Loop 32 :=
  let c1_i32_166 : BitVec 32 := 1#32
  let c55_i32_167 : BitVec 32 := 55#32
  let v391 : BitVec 32 := Scalar.addi c1_i32_166 c55_i32_167
  let c1_i32_168 : BitVec 32 := 1#32
  ⟨c1_i32_166, v391, c1_i32_168⟩
def k0_mult61 (k0_t31 : Fin k0_t31_loop.trips) : BitVec 32 :=
  let c1_i32_166 : BitVec 32 := 1#32
  let c1_i32_168 : BitVec 32 := 1#32
  let arg13 : BitVec 32 := Scf.iv c1_i32_166 c1_i32_168 k0_t31
  let c128_i32 : BitVec 32 := 128#32
  let v453 : BitVec 32 := Scalar.muli arg13 c128_i32
  v453
def k0_off32 (k0_t31 : Fin k0_t31_loop.trips) : Fin 2 → Nat :=
  let c928_199 : Index := 928#32
  let c1_i32_166 : BitVec 32 := 1#32
  let c1_i32_168 : BitVec 32 := 1#32
  let arg13 : BitVec 32 := Scf.iv c1_i32_166 c1_i32_168 k0_t31
  let c128_i32 : BitVec 32 := 128#32
  let v453 : BitVec 32 := Scalar.muli arg13 c128_i32
  let v454 : BitVec 32 := v453
  let v455 : Index := Scalar.indexCast v454
  ![928, v455.toNat]
def k0_mult62 : BitVec 32 :=
  let c0_i32_170 : BitVec 32 := 0#32
  c0_i32_170
@[reducible] def k0_t32_loop : Scf.Loop 32 :=
  let c1_i32_171 : BitVec 32 := 1#32
  let c55_i32_172 : BitVec 32 := 55#32
  let v403 : BitVec 32 := Scalar.addi c1_i32_171 c55_i32_172
  let c1_i32_173 : BitVec 32 := 1#32
  ⟨c1_i32_171, v403, c1_i32_173⟩
def k0_mult63 (k0_t32 : Fin k0_t32_loop.trips) : BitVec 32 :=
  let c1_i32_171 : BitVec 32 := 1#32
  let c1_i32_173 : BitVec 32 := 1#32
  let arg13 : BitVec 32 := Scf.iv c1_i32_171 c1_i32_173 k0_t32
  let c128_i32 : BitVec 32 := 128#32
  let v453 : BitVec 32 := Scalar.muli arg13 c128_i32
  v453
def k0_off33 (k0_t32 : Fin k0_t32_loop.trips) : Fin 2 → Nat :=
  let c960_199 : Index := 960#32
  let c1_i32_171 : BitVec 32 := 1#32
  let c1_i32_173 : BitVec 32 := 1#32
  let arg13 : BitVec 32 := Scf.iv c1_i32_171 c1_i32_173 k0_t32
  let c128_i32 : BitVec 32 := 128#32
  let v453 : BitVec 32 := Scalar.muli arg13 c128_i32
  let v454 : BitVec 32 := v453
  let v455 : Index := Scalar.indexCast v454
  ![960, v455.toNat]
def k0_mult64 : BitVec 32 :=
  let c0_i32_175 : BitVec 32 := 0#32
  c0_i32_175
@[reducible] def k0_t33_loop : Scf.Loop 32 :=
  let c1_i32_176 : BitVec 32 := 1#32
  let c55_i32_177 : BitVec 32 := 55#32
  let v415 : BitVec 32 := Scalar.addi c1_i32_176 c55_i32_177
  let c1_i32_178 : BitVec 32 := 1#32
  ⟨c1_i32_176, v415, c1_i32_178⟩
def k0_mult65 (k0_t33 : Fin k0_t33_loop.trips) : BitVec 32 :=
  let c1_i32_176 : BitVec 32 := 1#32
  let c1_i32_178 : BitVec 32 := 1#32
  let arg13 : BitVec 32 := Scf.iv c1_i32_176 c1_i32_178 k0_t33
  let c128_i32 : BitVec 32 := 128#32
  let v453 : BitVec 32 := Scalar.muli arg13 c128_i32
  v453
def k0_off34 (k0_t33 : Fin k0_t33_loop.trips) : Fin 2 → Nat :=
  let c992_199 : Index := 992#32
  let c1_i32_176 : BitVec 32 := 1#32
  let c1_i32_178 : BitVec 32 := 1#32
  let arg13 : BitVec 32 := Scf.iv c1_i32_176 c1_i32_178 k0_t33
  let c128_i32 : BitVec 32 := 128#32
  let v453 : BitVec 32 := Scalar.muli arg13 c128_i32
  let v454 : BitVec 32 := v453
  let v455 : Index := Scalar.indexCast v454
  ![992, v455.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x128x7168 : Shape := ⟨3, ![2, 128, 7168]⟩
abbrev S18432x7168 : Shape := ⟨2, ![18432, 7168]⟩
abbrev S18432 : Shape := ⟨1, ![18432]⟩
abbrev S64x7168 : Shape := ⟨2, ![64, 7168]⟩
abbrev S18432x64 : Shape := ⟨2, ![18432, 64]⟩
abbrev S256x7168 : Shape := ⟨2, ![256, 7168]⟩
abbrev S18432x1 : Shape := ⟨2, ![18432, 1]⟩
abbrev S256x18432 : Shape := ⟨2, ![256, 18432]⟩
abbrev S1x18432 : Shape := ⟨2, ![1, 18432]⟩
abbrev S256x1 : Shape := ⟨2, ![256, 1]⟩
abbrev S256 : Shape := ⟨1, ![256]⟩
abbrev S256x64 : Shape := ⟨2, ![256, 64]⟩

abbrev nBuf : Space → Nat
  | .hbm => 14
  | .vmem => 10
  | .smem => 0
  | _ => 0

abbrev bufTy : (tb : Table) → Fin (tcTables nBuf tb) → BufTy
  | .hbm, ⟨0, _⟩ => ⟨S2x128x7168, .bf16⟩
  | .hbm, ⟨1, _⟩ => ⟨S18432x7168, .i8⟩
  | .hbm, ⟨2, _⟩ => ⟨S18432, .f32⟩
  | .hbm, ⟨3, _⟩ => ⟨S64x7168, .bf16⟩
  | .hbm, ⟨4, _⟩ => ⟨S18432x64, .bf16⟩
  | .hbm, ⟨5, _⟩ => ⟨S18432, .f32⟩
  | .hbm, ⟨6, _⟩ => ⟨S18432x7168, .fp8e4m3⟩
  | .hbm, ⟨7, _⟩ => ⟨S256x7168, .bf16⟩
  | .hbm, ⟨8, _⟩ => ⟨S18432x1, .f32⟩
  | .hbm, ⟨9, _⟩ => ⟨S18432x1, .f32⟩
  | .hbm, ⟨10, _⟩ => ⟨S256x18432, .bf16⟩
  | .hbm, ⟨11, _⟩ => ⟨S1x18432, .f32⟩
  | .hbm, ⟨12, _⟩ => ⟨S256x7168, .fp8e4m3⟩
  | .hbm, ⟨13, _⟩ => ⟨S256x1, .f32⟩
  | .local _ .vmem, ⟨0, _⟩ => ⟨S256x7168, .bf16⟩
  | .local _ .vmem, ⟨1, _⟩ => ⟨S18432x7168, .fp8e4m3⟩
  | .local _ .vmem, ⟨2, _⟩ => ⟨S18432x1, .f32⟩
  | .local _ .vmem, ⟨3, _⟩ => ⟨S64x7168, .bf16⟩
  | .local _ .vmem, ⟨4, _⟩ => ⟨S18432x64, .bf16⟩
  | .local _ .vmem, ⟨5, _⟩ => ⟨S18432x1, .f32⟩
  | .local _ .vmem, ⟨6, _⟩ => ⟨S256x18432, .bf16⟩
  | .local _ .vmem, ⟨7, _⟩ => ⟨S1x18432, .f32⟩
  | .local _ .vmem, ⟨8, _⟩ => ⟨S256x7168, .fp8e4m3⟩
  | .local _ .vmem, ⟨9, _⟩ => ⟨S256x1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x18432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kit.lean ====
/-
  What the two runs of the kernel's body share: the body's one branch condition as arithmetic of the grid point, the
  windows that are never idle, the staging buffers and the scratch as the body is given them.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x7168 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x7168 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x64 .bf16 := Memref.whole cc0_scratch0
abbrev scM0_1 : Memref sig .tc .vmem S3x64x64 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Block.lean ====
/-
  What one run of the kernel's body computes, as functions of the blocks it is given: the row codes and scales and the
  two low-rank tables of the first grid point, the sums of squares of the weight rows (32 rows at a time, 56 chunks of 128
  columns one after another), the norms, and the output block.
-/
module

public import proofs.«01_k».proof.Proof.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The 32-row, 128-column piece of the weight block at row group `r` and column chunk `j`. -/
def chunk (w : Vec F S1024x7168 .fp8e4m3) (r : Fin 32) (j : Fin 56) : Vec F S32x128 .fp8e4m3 :=
  View.ld w (Rect.unit (s := S1024x7168) ![32 * r.val, 128 * j.val] S32x128.size (by
    intro a; have := r.isLt; have := j.isLt
    fin_cases a <;> simp <;> omega))

/-- The sums of squares of row group `r` after `k + 1` chunks: one 16x128 array for the first sixteen rows and one for
    the other sixteen. -/
def sums (w : Vec F S1024x7168 .fp8e4m3) (r : Fin 32) : ℕ → FVec F S16x128 .f32 × FVec F S16x128 .f32
  | 0 => (k0_pay19 (chunk w r 0), k0_pay20 (chunk w r 0))
  | k + 1 => if h : k + 1 < 56 then (k0_pay22 (sums w r k).1 (chunk w r ⟨k + 1, h⟩), k0_pay23 (sums w r k).2 (chunk w r ⟨k + 1, h⟩))
      else sums w r k

/-- A load of 32 rows and 128 columns of the weight block at the group's rows and the chunk's columns is the chunk. -/
theorem read_chunk {sp : Space} (v : View sig .tc sp S1024x7168 .fp8e4m3) (f : v.ty.Contents (Elt F)) (w : Vec F S1024x7168 .fp8e4m3)
    (hf : v.read (Elt F) f = w) (r : Fin 32) (j : Fin 56) (off : Fin 2 → ℕ) (inb : ∀ a, off a + S32x128.size a ≤ S1024x7168.size a)
    (ho : off = ![32 * r.val, 128 * j.val]) :
    View.readAt (Elt F) v (Rect.unit (s := S1024x7168) off S32x128.size inb).toLoadRect f = chunk w r j := by
  subst ho; subst hf; rfl

/-- A counted loop that starts from the squares of the first chunk and adds, trip by trip, the squares of the next one
    ends with the sums of squares of its row group. -/
theorem loop_eq {sp : Space} (v : View sig .tc sp S1024x7168 .fp8e4m3) (f : v.ty.Contents (Elt F)) (w : Vec F S1024x7168 .fp8e4m3)
    (hf : v.read (Elt F) f = w) (r : Fin 32) (n : ℕ) (st : ℕ → FVec F S16x128 .f32 × FVec F S16x128 .f32)
    (off0 : Fin 2 → ℕ) (inb0 : ∀ a, off0 a + S32x128.size a ≤ S1024x7168.size a)
    (off : Fin n → Fin 2 → ℕ) (inb : ∀ k a, off k a + S32x128.size a ≤ S1024x7168.size a)
    (h0 : st 0 = (k0_pay19 (View.readAt (Elt F) v (Rect.unit (s := S1024x7168) off0 S32x128.size inb0).toLoadRect f),
      k0_pay20 (View.readAt (Elt F) v (Rect.unit (s := S1024x7168) off0 S32x128.size inb0).toLoadRect f)))
    (hs : ∀ k : Fin n, st (k.val + 1)
      = (k0_pay22 (st k.val).1 (View.readAt (Elt F) v (Rect.unit (s := S1024x7168) (off k) S32x128.size (inb k)).toLoadRect f),
        k0_pay23 (st k.val).2 (View.readAt (Elt F) v (Rect.unit (s := S1024x7168) (off k) S32x128.size (inb k)).toLoadRect f)))
    (hn : n = 55) (ho0 : off0 = ![32 * r.val, 0]) (hoff : ∀ k : Fin n, off k = ![32 * r.val, 128 * (k.val + 1)]) :
    st n = sums w r 55 := by
  subst hn
  have key : ∀ k, k ≤ 55 → st k = sums w r k := by
    intro k
    induction k with
    | zero =>
      intro _
      rw [h0, read_chunk v f w hf r 0 off0 inb0 ho0]; rfl
    | succ k ih =>
      intro hk
      rw [hs ⟨k, by omega⟩, read_chunk v f w hf r ⟨k + 1, by omega⟩ _ _ (hoff ⟨k, by omega⟩), ih (by omega)]
      rw [sums.eq_2, dif_pos (show k + 1 < 56 by omega)]
  exact key 55 le_rfl

/-- A load of a whole buffer is its contents. -/
theorem read_full {sp : Space} {s : Shape} {e : EltTy} (v : View sig .tc sp s e) (f : v.ty.Contents (Elt F)) (x : s.Idx → Elt F e)
    (hf : v.read (Elt F) f = x) (off : Fin s.rank → ℕ) (inb : ∀ a, off a + s.size a ≤ s.size a) (ho : off = fun _ => 0) :
    View.readAt (Elt F) v (Rect.unit (s := s) off s.size inb).toLoadRect f = x := by
  rw [View.readAt_eq_ld, hf]; exact View.ld_unit_zero ho inb x

/-- A buffer whose last store was of the whole of it holds what was stored. -/
theorem read_written {sp : Space} {s : Shape} {e : EltTy} (v : View sig .tc sp s e) (f : v.ty.Contents (Elt F))
    (off : Fin s.rank → ℕ) (inb : ∀ a, off a + s.size a ≤ s.size a) (ho : off = fun _ => 0) (w : s.Idx → Elt F e)
    (L : List (View.Piece (Elt F) s e)) :
    v.read (Elt F) (v.writes (Elt F) f (⟨Rect.unit (s := s) off s.size inb, w⟩ :: L)) = w :=
  (View.read_writes_eq_canon v f _ fun y => ⟨_, List.mem_cons_self, View.mem_set_unit_zero ho inb y⟩).trans
    (View.canon_cons_unit_zero ho inb w L)

/-- The cross term depends on its seven inputs only. -/
theorem cross_congr {w w' : Vec F S1024x7168 .fp8e4m3} {b b' : Vec F S1024x64 .bf16} {s s' : Vec F S1x1024 .f32} {a a' : Vec F S64x7168 .bf16}
    {g0 g0' g1 g1' g2 g2' : Vec F S1x64x64 .bf16} (hw : w = w') (hb : b = b') (hs : s = s') (ha : a = a') (h0 : g0 = g0') (h1 : g1 = g1')
    (h2 : g2 = g2') : k0_pay16 w b s a g0 g1 g2 = k0_pay16 w' b' s' a' g0' g1' g2' := by
  subst hw hb hs ha h0 h1 h2; rfl

/-- The norms of the block's 1024 rows, from the sums of squares and the low-rank tables `g`. -/
def normOf (x1 : Vec F S1024x7168 .fp8e4m3) (x2 : Vec F S1x1024 .f32) (x3 : Vec F S64x7168 .bf16) (x4 : Vec F S1024x64 .bf16)
    (xg : Vec F S3x64x64 .bf16) : FVec F S1x1024 .f32 :=
  k0_pay213 (k0_pay15 x2) (k0_pay17 (k0_pay16 x1 x4 x2 x3
      (View.ld xg (Rect.unit (s := S3x64x64) ![0, 0, 0] S1x64x64.size inb_S3x64x64_S1x64x64_0_0_0))
      (View.ld xg (Rect.unit (s := S3x64x64) ![1, 0, 0] S1x64x64.size inb_S3x64x64_S1x64x64_1_0_0))
      (View.ld xg (Rect.unit (s := S3x64x64) ![2, 0, 0] S1x64x64.size inb_S3x64x64_S1x64x64_2_0_0))))
    (sums x1 0 55).1 (sums x1 0 55).2 (sums x1 1 55).1 (sums x1 1 55).2 (sums x1 2 55).1 (sums x1 2 55).2 (sums x1 3 55).1 (sums x1 3 55).2 (sums x1 4 55).1 (sums x1 4 55).2 (sums x1 5 55).1 (sums x1 5 55).2 (sums x1 6 55).1 (sums x1 6 55).2 (sums x1 7 55).1 (sums x1 7 55).2 (sums x1 8 55).1 (sums x1 8 55).2 (sums x1 9 55).1 (sums x1 9 55).2 (sums x1 10 55).1 (sums x1 10 55).2 (sums x1 11 55).1 (sums x1 11 55).2 (sums x1 12 55).1 (sums x1 12 55).2 (sums x1 13 55).1 (sums x1 13 55).2 (sums x1 14 55).1 (sums x1 14 55).2 (sums x1 15 55).1 (sums x1 15 55).2 (sums x1 16 55).1 (sums x1 16 55).2 (sums x1 17 55).1 (sums x1 17 55).2 (sums x1 18 55).1 (sums x1 18 55).2 (sums x1 19 55).1 (sums x1 19 55).2 (sums x1 20 55).1 (sums x1 20 55).2 (sums x1 21 55).1 (sums x1 21 55).2 (sums x1 22 55).1 (sums x1 22 55).2 (sums x1 23 55).1 (sums x1 23 55).2 (sums x1 24 55).1 (sums x1 24 55).2 (sums x1 25 55).1 (sums x1 25 55).2 (sums x1 26 55).1 (sums x1 26 55).2 (sums x1 27 55).1 (sums x1 27 55).2 (sums x1 28 55).1 (sums x1 28 55).2 (sums x1 29 55).1 (sums x1 29 55).2 (sums x1 30 55).1 (sums x1 30 55).2 (sums x1 31 55).1 (sums x1 31 55).2

/-- The output block, from the norms `n`, the codes `xc`, their scales `xs` and the low-rank image `xh` of the rows. -/
def outOf (x1 : Vec F S1024x7168 .fp8e4m3) (x2 : Vec F S1x1024 .f32) (x4 : Vec F S1024x64 .bf16) (x5 : Vec F S1x1024 .f32)
    (n : FVec F S1x1024 .f32) (xc : Vec F S256x7168 .fp8e4m3) (xs : Vec F S256x1 .f32) (xh : Vec F S256x64 .bf16) : FVec F S256x1024 .bf16 :=
  k0_pay1 (k0_pay14 x1) x4 (k0_pay15 x2) n (k0_pay214 x5)
    (cmpf .ogt n (broadcast S1x1024 (Scalar.ofBits .f32 0x00000000#32 : F .f32))) xc xs xh

/-- The output block depends on its nine inputs only. -/
theorem out_eq {x1 : Vec F S1024x7168 .fp8e4m3} {x2 : Vec F S1x1024 .f32} {x4 : Vec F S1024x64 .bf16} {x5 : Vec F S1x1024 .f32}
    {n : FVec F S1x1024 .f32} {xc : Vec F S256x7168 .fp8e4m3} {xs : Vec F S256x1 .f32} {xh : Vec F S256x64 .bf16}
    {w : FVec F S1024x7168 .fp8e4m3} {b : Vec F S1024x64 .bf16} {s n' u : FVec F S1x1024 .f32} {g : IVec S1x1024 1}
    {yc : Vec F S256x7168 .fp8e4m3} {ys : Vec F S256x1 .f32} {yh : Vec F S256x64 .bf16}
    (hw : w = k0_pay14 x1) (hb : b = x4) (hs : s = k0_pay15 x2) (hn : n' = n) (hu : u = k0_pay214 x5)
    (hg : g = cmpf .ogt n' (broadcast S1x1024 (Scalar.ofBits .f32 0x00000000#32 : F .f32))) (hc : yc = xc) (hys : ys = xs) (hh : yh = xh) :
    k0_pay1 w b s n' u g yc ys yh = outOf x1 x2 x4 x5 n xc xs xh := by
  subst hw hb hs hn hu hg hc hys hh; rfl

end Cert.KernelIdeal.Hand

end
-- ==== Proof.First.lean ====
/-
  What the first grid point leaves in the buffers that the later points read: the row codes and their scales, written 32
  rows at a time, the low-rank image of the rows, and the three parts of the 64x64 table of the low-rank matrix.
-/
module

public import proofs.«01_k».proof.Proof.Block

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

theorem inb_rows (k : ℕ) (h : k < 8) : ∀ a, (![32 * k, 0] : Fin 2 → ℕ) a + S32x7168.size a ≤ S256x7168.size a := by
  intro a; fin_cases a <;> simp <;> omega

theorem inb_scales (k : ℕ) (h : k < 8) : ∀ a, (![32 * k, 0] : Fin 2 → ℕ) a + S32x1.size a ≤ S256x1.size a := by
  intro a; fin_cases a <;> simp <;> omega

/-- Rows `32 k` to `32 k + 31` of the activations. -/
def rows (x : Vec F S256x7168 .bf16) (k : ℕ) (h : k < 8) : Vec F S32x7168 .bf16 :=
  View.ld x (Rect.unit (s := S256x7168) ![32 * k, 0] S32x7168.size (inb_rows k h))

/-- The stores into the codes buffer of the first `k` row groups, the last one first. -/
def piecesC (x : Vec F S256x7168 .bf16) : ℕ → List (View.Piece (Elt F) S256x7168 .fp8e4m3)
  | 0 => []
  | k + 1 => if h : k < 8 then ⟨Rect.unit (s := S256x7168) ![32 * k, 0] S32x7168.size (inb_rows k h), k0_pay4 (rows x k h)⟩ :: piecesC x k
      else piecesC x k

/-- The stores into the scales buffer of the first `k` row groups, the last one first. -/
def piecesS (x : Vec F S256x7168 .bf16) : ℕ → List (View.Piece (Elt F) S256x1 .f32)
  | 0 => []
  | k + 1 => if h : k < 8 then ⟨Rect.unit (s := S256x1) ![32 * k, 0] S32x1.size (inb_scales k h), k0_pay5 (k0_pay3 (rows x k h))⟩ :: piecesS x k
      else piecesS x k

/-- The codes of all 256 rows. -/
def codesOf (x : Vec F S256x7168 .bf16) : Vec F S256x7168 .fp8e4m3 := View.canon (piecesC x 8)

/-- The scales of all 256 rows. -/
def scalesOf (x : Vec F S256x7168 .bf16) : Vec F S256x1 .f32 := View.canon (piecesS x 8)

/-- The low-rank image of the rows. -/
def hOf (x : Vec F S256x7168 .bf16) (a : Vec F S64x7168 .bf16) : Vec F S256x64 .bf16 := k0_pay6 x a

/-- The three parts, one slab each, of the table of the low-rank matrix. -/
def gOf (a : Vec F S64x7168 .bf16) : Vec F S3x64x64 .bf16 :=
  View.canon [⟨Rect.unit (s := S3x64x64) ![2, 0, 0] S1x64x64.size inb_S3x64x64_S1x64x64_2_0_0, k0_pay13 a a⟩,
    ⟨Rect.unit (s := S3x64x64) ![1, 0, 0] S1x64x64.size inb_S3x64x64_S1x64x64_1_0_0, k0_pay12 a a⟩,
    ⟨Rect.unit (s := S3x64x64) ![0, 0, 0] S1x64x64.size inb_S3x64x64_S1x64x64_0_0_0, k0_pay11 a a⟩]

/-- A counted loop that stores, trip by trip, the codes and the scales of the next 32 rows has stored those of all of
    them after its last trip. -/
theorem loop1_eq {sp : Space} (v : View sig .tc sp S256x7168 .bf16) (f : v.ty.Contents (Elt F)) (x : Vec F S256x7168 .bf16)
    (hf : v.read (Elt F) f = x) (n : ℕ)
    (st : ℕ → List (View.Piece (Elt F) S256x7168 .fp8e4m3) × List (View.Piece (Elt F) S256x1 .f32))
    (off : Fin n → Fin 2 → ℕ) (inb : ∀ k a, off k a + S32x7168.size a ≤ S256x7168.size a)
    (off2 : Fin n → Fin 2 → ℕ) (inb2 : ∀ k a, off2 k a + S32x1.size a ≤ S256x1.size a)
    (h0 : st 0 = ([], []))
    (hs : ∀ k : Fin n, st (k.val + 1)
      = (⟨Rect.unit (s := S256x7168) (off k) S32x7168.size (inb k),
          k0_pay4 (View.readAt (Elt F) v (Rect.unit (s := S256x7168) (off k) S32x7168.size (inb k)).toLoadRect f)⟩ :: (st k.val).1,
        ⟨Rect.unit (s := S256x1) (off2 k) S32x1.size (inb2 k),
          k0_pay5 (k0_pay3 (View.readAt (Elt F) v (Rect.unit (s := S256x7168) (off k) S32x7168.size (inb k)).toLoadRect f))⟩ :: (st k.val).2))
    (hn : n = 8) (hoff : ∀ k : Fin n, off k = ![32 * k.val, 0]) (hoff2 : ∀ k : Fin n, off2 k = ![32 * k.val, 0]) :
    st n = (piecesC x 8, piecesS x 8) := by
  subst hn; subst hf
  obtain rfl : off = fun k => ![32 * k.val, 0] := funext hoff
  obtain rfl : off2 = fun k => ![32 * k.val, 0] := funext hoff2
  have key : ∀ k, k ≤ 8 → st k = (piecesC (v.read (Elt F) f) k, piecesS (v.read (Elt F) f) k) := by
    intro k
    induction k with
    | zero => intro _; exact h0
    | succ k ih =>
      intro hk
      rw [hs ⟨k, by omega⟩, ih (by omega), piecesC.eq_2, piecesS.eq_2, dif_pos (show k < 8 by omega), dif_pos (show k < 8 by omega)]
      rfl
  exact key 8 le_rfl

/-- The stores of the first `k` row groups reach every entry of their rows. -/
theorem coverC (x : Vec F S256x7168 .bf16) (k : ℕ) (hk : k ≤ 8) (y : S256x7168.Idx) (h : (y 0).val < 32 * k) :
    ∃ p ∈ piecesC x k, y ∈ p.1.set := by
  induction k with
  | zero => omega
  | succ k ih =>
    rw [piecesC.eq_2, dif_pos (show k < 8 by omega)]
    by_cases hy : (y 0).val < 32 * k
    · obtain ⟨p, hp, hm⟩ := ih (by omega) hy
      exact ⟨p, List.mem_cons_of_mem _ hp, hm⟩
    · refine ⟨_, List.mem_cons_self, ?_⟩
      refine (Rect.mem_set_unit (inb := inb_rows k (by omega))).mpr fun a => ?_
      have h1 : (y 1).val < 7168 := (y 1).isLt
      fin_cases a
      · show 32 * k ≤ (y 0).val ∧ (y 0).val < 32 * k + 32
        omega
      · show 0 ≤ (y 1).val ∧ (y 1).val < 0 + 7168
        omega

/-- The same of the scales. -/
theorem coverS (x : Vec F S256x7168 .bf16) (k : ℕ) (hk : k ≤ 8) (y : S256x1.Idx) (h : (y 0).val < 32 * k) :
    ∃ p ∈ piecesS x k, y ∈ p.1.set := by
  induction k with
  | zero => omega
  | succ k ih =>
    rw [piecesS.eq_2, dif_pos (show k < 8 by omega)]
    by_cases hy : (y 0).val < 32 * k
    · obtain ⟨p, hp, hm⟩ := ih (by omega) hy
      exact ⟨p, List.mem_cons_of_mem _ hp, hm⟩
    · refine ⟨_, List.mem_cons_self, ?_⟩
      refine (Rect.mem_set_unit (inb := inb_scales k (by omega))).mpr fun a => ?_
      have h1 : (y 1).val < 1 := (y 1).isLt
      fin_cases a
      · show 32 * k ≤ (y 0).val ∧ (y 0).val < 32 * k + 32
        omega
      · show 0 ≤ (y 1).val ∧ (y 1).val < 0 + 1
        omega

/-- A buffer after the stores of all eight row groups holds the codes, whatever it held before. -/
theorem read_codes {sp : Space} (v : View sig .tc sp S256x7168 .fp8e4m3) (f : v.ty.Contents (Elt F)) (x : Vec F S256x7168 .bf16) :
    v.read (Elt F) (v.writes (Elt F) f (piecesC x 8)) = codesOf x :=
  View.read_writes_eq_canon v f _ fun y => coverC x 8 le_rfl y (y 0).isLt

/-- The same of the scales. -/
theorem read_scales {sp : Space} (v : View sig .tc sp S256x1 .f32) (f : v.ty.Contents (Elt F)) (x : Vec F S256x7168 .bf16) :
    v.read (Elt F) (v.writes (Elt F) f (piecesS x 8)) = scalesOf x :=
  View.read_writes_eq_canon v f _ fun y => coverS x 8 le_rfl y (y 0).isLt

/-- The three slab stores leave the table, and a load of one slab reads that slab of it. -/
theorem read_table {sp : Space} (v : View sig .tc sp S3x64x64 .bf16) (a : Vec F S64x7168 .bf16) (w0 w1 w2 : Vec F S1x64x64 .bf16)
    (h0 : w0 = k0_pay11 a a) (h1 : w1 = k0_pay12 a a) (h2 : w2 = k0_pay13 a a) :
    v.read (Elt F) (v.writes (Elt F) v.junk [⟨Rect.unit (s := S3x64x64) ![2, 0, 0] S1x64x64.size inb_S3x64x64_S1x64x64_2_0_0, w2⟩,
      ⟨Rect.unit (s := S3x64x64) ![1, 0, 0] S1x64x64.size inb_S3x64x64_S1x64x64_1_0_0, w1⟩,
      ⟨Rect.unit (s := S3x64x64) ![0, 0, 0] S1x64x64.size inb_S3x64x64_S1x64x64_0_0_0, w0⟩]) = gOf a := by
  subst h0 h1 h2; exact View.read_writes_junk_eq_canon v _

end Cert.KernelIdeal.Hand

end
-- ==== Proof.RunA.lean ====
/-
  The run of the body at the first grid point: it writes the codes, the scales and the two low-rank tables, and then, as at
  every other point, the norms and the output block of its 1024 weight rows.
-/
module

public import proofs.«01_k».proof.Proof.First

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2352000 in
/-- The run at the first point, from the blocks the windows hold: it fills the four arrays that the later points read. -/
theorem kernelRun0_A (c : Dev nD) (i : grid0.Coords) (arg1 : Memref sig .tc .vmem S256x7168 .bf16) (harg1 : arg1.IsWhole) (arg2 : Memref sig .tc .vmem S1024x7168 .fp8e4m3) (harg2 : arg2.IsWhole) (arg3 : Memref sig .tc .vmem S1x1024 .f32) (harg3 : arg3.IsWhole) (arg4 : Memref sig .tc .vmem S64x7168 .bf16) (harg4 : arg4.IsWhole) (arg5 : Memref sig .tc .vmem S1024x64 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S256x7168 .fp8e4m3) (harg9 : arg9.IsWhole) (arg10 : Memref sig .tc .vmem S256x1 .f32) (harg10 : arg10.IsWhole) (arg11 : Memref sig .tc .vmem S256x64 .bf16) (harg11 : arg11.IsWhole) (arg12 : Memref sig .tc .vmem S3x64x64 .bf16) (harg12 : arg12.IsWhole) (hc0 : cond0_0 i)
    (x0 : Vec F S256x7168 .bf16) (x1 : Vec F S1024x7168 .fp8e4m3) (x2 : Vec F S1x1024 .f32) (x3 : Vec F S64x7168 .bf16) (x4 : Vec F S1024x64 .bf16) (x5 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf x1 x2 x4 x5 (normOf x1 x2 x3 x4 (gOf x3)) (codesOf x0) (scalesOf x0) (hOf x0 x3)) ∗ owns (c : Thread nD τ) arg8 fullShare (normOf x1 x2 x3 x4 (gOf x3)) ∗ owns (c : Thread nD τ) arg9 fullShare (codesOf x0) ∗ owns (c : Thread nD τ) arg10 fullShare (scalesOf x0) ∗ owns (c : Thread nD τ) arg11 fullShare (hOf x0 x3) ∗ owns (c : Thread nD τ) arg12 fullShare (gOf x3)) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11 arg12 harg12) K := by
    intro E K
    simp only [cc0_dora_fp8_eq_skeleton]; unfold cc0_dora_fp8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have z2 : (![0, 0] : Fin 2 → ℕ) = fun _ => 0 := by decide
    have r1 := read_full arg2.view _ x1 (harg2.read_unread x1) ![0, 0] inb_S1024x7168_S1024x7168_0_0 z2
    have r2 := read_full arg3.view _ x2 (harg3.read_unread x2) ![0, 0] inb_S1x1024_S1x1024_0_0 z2
    have r3 := read_full arg4.view _ x3 (harg4.read_unread x3) ![0, 0] inb_S64x7168_S64x7168_0_0 z2
    have r4 := read_full arg5.view _ x4 (harg5.read_unread x4) ![0, 0] inb_S1024x64_S1024x64_0_0 z2
    have r5 := read_full arg6.view _ x5 (harg6.read_unread x5) ![0, 0] inb_S1x1024_S1x1024_0_0 z2
    have r0 := read_full arg1.view _ x0 (harg1.read_unread x0) ![0, 0] inb_S256x7168_S256x7168_0_0 z2
    have hg := read_table arg12.view x3 _ _ _ (congrArg₂ k0_pay11 r3 r3) (congrArg₂ k0_pay12 r3 r3) (congrArg₂ k0_pay13 r3 r3)
    have hp : pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg1.unread x0) (Scf.trips k0_t1_loop.lb k0_t1_loop.ub k0_t1_loop.st) = (piecesC x0 8, piecesS x0 8) := by
      with_unfolding_all exact loop1_eq arg1.view _ x0 (harg1.read_unread x0) _ _ _ _ _ _ rfl (fun k => dif_pos k.isLt) rfl (by decide +kernel) (by decide +kernel)
    have hc : arg9.view.read (Elt F) (arg9.view.writes (Elt F) f8 (pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg1.unread x0) (Scf.trips k0_t1_loop.lb k0_t1_loop.ub k0_t1_loop.st)).1) = codesOf x0 := by
      rw [hp]; exact read_codes _ _ _
    have hs : arg10.view.read (Elt F) (arg10.view.writes (Elt F) f9 (pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg1.unread x0) (Scf.trips k0_t1_loop.lb k0_t1_loop.ub k0_t1_loop.st)).2) = scalesOf x0 := by
      rw [hp]; exact read_scales _ _ _
    have hn : kernelRun0_A.sl.r_74 c i arg1 harg1 arg2 harg2 arg3 harg3 arg4 harg4 arg5 harg5 arg6 harg6 arg7 harg7 arg8 harg8 arg9 harg9 arg10 harg10 arg11 harg11 arg12 harg12 x1 x2 x3 x4 = normOf x1 x2 x3 x4 (gOf x3) := by
      unfold kernelRun0_A.sl.r_74 normOf
      congr 1
      all_goals first
        | exact congrArg k0_pay17 (cross_congr r1 r4 r2 r3 (congrArg (fun X => View.ld X _) hg) (congrArg (fun X => View.ld X _) hg) (congrArg (fun X => View.ld X _) hg))
        | exact congrArg k0_pay15 r2
        | (with_unfolding_all exact congrArg Prod.fst (loop_eq arg2.view _ x1 (harg2.read_unread x1) _ _ _ _ _ _ _ rfl (fun k => dif_pos k.isLt) rfl (by decide +kernel) (by decide +kernel)))
        | (with_unfolding_all exact congrArg Prod.snd (loop_eq arg2.view _ x1 (harg2.read_unread x1) _ _ _ _ _ _ _ rfl (fun k => dif_pos k.isLt) rfl (by decide +kernel) (by decide +kernel)))
    isplitl [H6]
    · iexists _; isplitr; swap; · iexact H6
      ipureintro; refine (read_written _ _ _ _ z2 _ _).trans ?_
      refine out_eq ?_ ?_ ?_ ?_ ?_ ?_ ?_ ?_ ?_
      · exact congrArg k0_pay14 r1
      · exact r4
      · exact congrArg k0_pay15 r2
      · exact hn
      · exact congrArg k0_pay214 r5
      · exact rfl
      · exact read_full arg9.view _ _ hc ![0, 0] inb_S256x7168_S256x7168_0_0 z2
      · exact read_full arg10.view _ _ hs ![0, 0] inb_S256x1_S256x1_0_0 z2
      · exact (View.readCov_unit_zero _ z2 _ _).trans (congrArg₂ k0_pay6 r0 r3)
    isplitl [H7]
    · iexists _; isplitr; swap; · iexact H7
      ipureintro; refine (read_written _ _ _ _ z2 _ _).trans ?_
      exact hn
    isplitl [H8]
    · iexists _; isplitr; swap; · iexact H8
      ipureintro; exact hc
    isplitl [H9]
    · iexists _; isplitr; swap; · iexact H9
      ipureintro; exact hs
    isplitl [HS0]
    · iexists _; isplitr; swap; · iexact HS0
      ipureintro
      exact (read_written _ _ _ _ z2 _ _).trans (congrArg₂ k0_pay6 r0 r3)
    iexists _; isplitr; swap; · iexact HS1
    ipureintro; exact hg

end Cert.KernelIdeal.Hand

end
-- ==== Proof.RunB.lean ====
/-
  The run of the body at every grid point but the first: it leaves the codes, the scales and the two low-rank tables as it
  found them, and writes the norms and the output block of its 1024 weight rows.
-/
module

public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2352000 in
/-- The run at a later point, from the blocks the windows hold and the four arrays the first point left. -/
theorem kernelRun0_B (c : Dev nD) (i : grid0.Coords) (arg1 : Memref sig .tc .vmem S256x7168 .bf16) (harg1 : arg1.IsWhole) (arg2 : Memref sig .tc .vmem S1024x7168 .fp8e4m3) (harg2 : arg2.IsWhole) (arg3 : Memref sig .tc .vmem S1x1024 .f32) (harg3 : arg3.IsWhole) (arg4 : Memref sig .tc .vmem S64x7168 .bf16) (harg4 : arg4.IsWhole) (arg5 : Memref sig .tc .vmem S1024x64 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S256x7168 .fp8e4m3) (harg9 : arg9.IsWhole) (arg10 : Memref sig .tc .vmem S256x1 .f32) (harg10 : arg10.IsWhole) (arg11 : Memref sig .tc .vmem S256x64 .bf16) (harg11 : arg11.IsWhole) (arg12 : Memref sig .tc .vmem S3x64x64 .bf16) (harg12 : arg12.IsWhole) (hc0 : ¬cond0_0 i)
    (x0 : Vec F S256x7168 .bf16) (x1 : Vec F S1024x7168 .fp8e4m3) (x2 : Vec F S1x1024 .f32) (x3 : Vec F S64x7168 .bf16) (x4 : Vec F S1024x64 .bf16) (x5 : Vec F S1x1024 .f32) (xc : Vec F S256x7168 .fp8e4m3) (xs : Vec F S256x1 .f32) (xh : Vec F S256x64 .bf16) (xg : Vec F S3x64x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare xh ∗ owns (c : Thread nD τ) arg12 fullShare xg
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf x1 x2 x4 x5 (normOf x1 x2 x3 x4 xg) xc xs xh) ∗ owns (c : Thread nD τ) arg8 fullShare (normOf x1 x2 x3 x4 xg) ∗ owns (c : Thread nD τ) arg9 fullShare xc ∗ owns (c : Thread nD τ) arg10 fullShare xs ∗ owns (c : Thread nD τ) arg11 fullShare xh ∗ owns (c : Thread nD τ) arg12 fullShare xg) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11 arg12 harg12) K := by
    intro E K
    simp only [cc0_dora_fp8_eq_skeleton]; unfold cc0_dora_fp8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have z2 : (![0, 0] : Fin 2 → ℕ) = fun _ => 0 := by decide
    have r1 := read_full arg2.view _ x1 (harg2.read_unread x1) ![0, 0] inb_S1024x7168_S1024x7168_0_0 z2
    have r2 := read_full arg3.view _ x2 (harg3.read_unread x2) ![0, 0] inb_S1x1024_S1x1024_0_0 z2
    have r3 := read_full arg4.view _ x3 (harg4.read_unread x3) ![0, 0] inb_S64x7168_S64x7168_0_0 z2
    have r4 := read_full arg5.view _ x4 (harg5.read_unread x4) ![0, 0] inb_S1024x64_S1024x64_0_0 z2
    have r5 := read_full arg6.view _ x5 (harg6.read_unread x5) ![0, 0] inb_S1x1024_S1x1024_0_0 z2
    have rc := read_full arg9.view _ xc (harg9.read_unread xc) ![0, 0] inb_S256x7168_S256x7168_0_0 z2
    have rs := read_full arg10.view _ xs (harg10.read_unread xs) ![0, 0] inb_S256x1_S256x1_0_0 z2
    have rh := read_full arg11.view _ xh (harg11.read_unread xh) ![0, 0] inb_S256x64_S256x64_0_0 z2
    have hn : kernelRun0_B.sl.r_74 c i arg1 harg1 arg2 harg2 arg3 harg3 arg4 harg4 arg5 harg5 arg6 harg6 arg7 harg7 arg8 harg8 arg9 harg9 arg10 harg10 arg11 harg11 arg12 harg12 x1 x2 x3 x4 xg = normOf x1 x2 x3 x4 xg := by
      unfold kernelRun0_B.sl.r_74 normOf
      congr 1
      all_goals first
        | exact congrArg k0_pay15 r2
        | (with_unfolding_all exact congrArg Prod.fst (loop_eq arg2.view _ x1 (harg2.read_unread x1) _ _ _ _ _ _ _ rfl (fun k => dif_pos k.isLt) rfl (by decide +kernel) (by decide +kernel)))
        | (with_unfolding_all exact congrArg Prod.snd (loop_eq arg2.view _ x1 (harg2.read_unread x1) _ _ _ _ _ _ _ rfl (fun k => dif_pos k.isLt) rfl (by decide +kernel) (by decide +kernel)))
        | exact congrArg k0_pay17 (cross_congr r1 r4 r2 r3 (congrArg (fun X => View.ld X _) (harg12.read_unread xg)) (congrArg (fun X => View.ld X _) (harg12.read_unread xg)) (congrArg (fun X => View.ld X _) (harg12.read_unread xg)))
    isplitl [H6]
    · iexists _; isplitr; swap; · iexact H6
      ipureintro; refine (read_written _ _ _ _ z2 _ _).trans ?_
      unfold outOf
      rw [← hn]
      congr 1
      · exact congrArg k0_pay14 r1
      · exact congrArg k0_pay15 r2
      · exact congrArg k0_pay214 r5
    isplitl [H7]
    · iexists _; isplitr; swap; · iexact H7
      ipureintro; refine (read_written _ _ _ _ z2 _ _).trans ?_
      exact hn
    isplitl [H8]
    · iexists _; isplitr; swap; · iexact H8
      ipureintro; exact harg9.read_unread _
    isplitl [H9]
    · iexists _; isplitr; swap; · iexact H9
      ipureintro; exact harg10.read_unread _
    isplitl [HS0]
    · iexists _; isplitr; swap; · iexact HS0
      ipureintro; exact harg11.read_unread _
    iexists _; isplitr; swap; · iexact HS1
    ipureintro; exact harg12.read_unread _

end Cert.KernelIdeal.Hand

end
-- ==== Proof.Pipe.lean ====
/-
  The pipeline of the idealized kernel: what every staging buffer and the two scratch buffers hold at every grid point, the
  body's obligation at a generic point, the run, and the frame.
-/
module

public import proofs.«01_k».proof.Proof.RunA
public import proofs.«01_k».proof.Proof.RunB
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations as the kernel's call finds them. -/
def xAll (c : Dev nD) : Vec F S256x7168 .bf16 := V m c main_v1

/-- The low-rank matrix that multiplies the activations. -/
def aAll (c : Dev nD) : Vec F S64x7168 .bf16 := V m c main_arg3

/-- The activations' window holds all of them at every point. -/
theorem iblk_x (c : Dev nD) (t : Fin cfg0.N) : iblk m c 0 t = xAll m c :=
  Memref.read_access_unit_zero (Elt F) main_v1 (funext fun a => by fin_cases a <;> rfl) _ (V m c main_v1)

/-- The low-rank matrix's window holds all of it at every point. -/
theorem iblk_a (c : Dev nD) (t : Fin cfg0.N) : iblk m c 3 t = aAll m c :=
  Memref.read_access_unit_zero (Elt F) main_arg3 (funext fun a => by fin_cases a <;> rfl) _ (V m c main_arg3)

/-- The norms of the weight rows of point `t`. -/
def normAt (c : Dev nD) (t : Fin cfg0.N) : Vec F S1x1024 .f32 :=
  normOf (iblk m c 1 t) (iblk m c 2 t) (aAll m c) (iblk m c 4 t) (gOf (aAll m c))

/-- The output block of point `t`. -/
def outAt (c : Dev nD) (t : Fin cfg0.N) : Vec F S256x1024 .bf16 :=
  outOf (iblk m c 1 t) (iblk m c 2 t) (iblk m c 4 t) (iblk m c 5 t) (normAt m c t) (codesOf (xAll m c)) (scalesOf (xAll m c))
    (hOf (xAll m c) (aAll m c))

/-- What the scratch buffers hold after the first point. -/
def kept (c : Dev nD) : sProp 𝕄 :=
  iprop(iprop(owns (c : Thread nD τ) scM0_0 fullShare (hOf (xAll m c) (aAll m c)) ∗ owns (c : Thread nD τ) scM0_1 fullShare (gOf (aAll m c)))
    ∗ (∃ r, prngReg c r))

/-- The proof data: each input's buffer at its block; the output block and the norms of the point; the codes and the scales
    of all rows; the scratch buffers at anything before the first point and at the low-rank tables from then on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => normAt m c t
    | ⟨8, _⟩ => codesOf (xAll m c)
    | ⟨9, _⟩ => scalesOf (xAll m c)
  Φ t := if t.val = 0 then Pipeline.ΦA spec0 c else kept m c
  q _ := fullShare
  owed _ := 0

/-- The scratch buffers before the first point, and after it. -/
theorem Φ_zero (c : Dev nD) (t : Fin (cfg0.N + 1)) (h : t.val = 0) : (dats m 0 c).Φ t = Pipeline.ΦA spec0 c := by
  dsimp only [dats]; rw [if_pos h]

theorem Φ_pos (c : Dev nD) (t : Fin (cfg0.N + 1)) (h : t.val ≠ 0) : (dats m 0 c).Φ t = kept m c := by
  dsimp only [dats]; rw [if_neg h]

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = normAt m c t := by dsimp only [dats]
theorem after0_8 (c : Dev nD) (t : Fin cfg0.N) : (dats m 0 c).after 8 t = codesOf (xAll m c) := by dsimp only [dats]
theorem after0_9 (c : Dev nD) (t : Fin cfg0.N) : (dats m 0 c).after 9 t = scalesOf (xAll m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body stores into the codes and the scales buffers at the first point only. -/
theorem idle0_8 (t : Fin cfg0.N) (ht : t.val ≠ 0) : cfg0.idle 8 (cfg0.grid.coords t) = true := by
  have hN : t.val < 18 := lt_of_lt_of_eq t.isLt (show cfg0.N = 18 from N_0)
  have h : ¬ cond0_0 (grid0.coords t) := fun h => by have := (hcond0_0 t).mp h; omega
  show (!(k0_cond1 (grid0.coords t) == 1#1)) = true
  rw [beq_eq_false_iff_ne.mpr h]; rfl

theorem idle0_9 (t : Fin cfg0.N) (ht : t.val ≠ 0) : cfg0.idle 9 (cfg0.grid.coords t) = true := idle0_8 t ht

theorem live0_8 (t : Fin cfg0.N) (ht : t.val = 0) : cfg0.idle 8 (cfg0.grid.coords t) = false := by
  have h : cond0_0 (grid0.coords t) := (hcond0_0 t).mpr (by omega)
  show (!(k0_cond1 (grid0.coords t) == 1#1)) = false
  rw [show k0_cond1 (grid0.coords t) = 1#1 from h]; rfl

theorem live0_9 (t : Fin cfg0.N) (ht : t.val = 0) : cfg0.idle 9 (cfg0.grid.coords t) = false := live0_8 t ht

/-- An output that is stored at the first point only, and written back at the last, holds at every later point what the first
    point left. -/
theorem before_const (c : Dev nD) (dat : Dat τ (Elt F) Unit ℕ (UR sig nD τ) ℕ cfg0 c) (w : Fin cfg0.W) (hw : (cfg0.win w).isOut = true)
    (hfl : ∀ t, (cfg0.win w).flush t = true ↔ t.val % 18 = 17)
    (hidle : ∀ t : Fin cfg0.N, t.val ≠ 0 → cfg0.idle w (cfg0.grid.coords t) = true)
    (hlive : ∀ t : Fin cfg0.N, t.val = 0 → cfg0.idle w (cfg0.grid.coords t) = false)
    (G : (cfg0.win w).block.Idx → Elt F (cfg0.win w).elt)
    (hk : ∀ t : Fin cfg0.N, ∀ d, dat.kept w t d = G) (n : ℕ) :
    ∀ t : Fin cfg0.N, t.val = n → t.val ≠ 0 → ∀ d, dat.before w t d = G := by
  induction n with
  | zero => intro t h h0; omega
  | succ n ih =>
    intro t h h0 d
    have hN : t.val < 18 := lt_of_lt_of_eq t.isLt (show cfg0.N = 18 from N_0)
    rw [dat.before_of_pos w t h0 ((cfg0.win w).fetch_out hw t)]
    rw [if_neg (fun hf => by have := (hfl _).mp hf; simp only at this; omega)]
    unfold Dat.left
    by_cases hn : n = 0
    · rw [hlive ⟨t.val - 1, Nat.lt_of_le_of_lt (Nat.sub_le _ _) t.isLt⟩ (by simp only; omega)]
      exact hk _ _
    · rw [hidle ⟨t.val - 1, Nat.lt_of_le_of_lt (Nat.sub_le _ _) t.isLt⟩ (by simp only; omega)]
      exact ih _ (by simp only; omega) (by simp only; omega) _

theorem fill_cut8 (t : Fin cfg0.N) (d g : (cfg0.win 8).block.Idx → Elt F (cfg0.win 8).elt) :
    (cfg0.win 8).fill (cfg0.grid.coords t) d ((cfg0.win 8).cut (cfg0.grid.coords t) g) = g := rfl

theorem fill_cut9 (t : Fin cfg0.N) (d g : (cfg0.win 9).block.Idx → Elt F (cfg0.win 9).elt) :
    (cfg0.win 9).fill (cfg0.grid.coords t) d ((cfg0.win 9).cut (cfg0.grid.coords t) g) = g := rfl

theorem before0_8 (c : Dev nD) (t : Fin cfg0.N) (ht : t.val ≠ 0) (d) : (dats m 0 c).before 8 t d = codesOf (xAll m c) :=
  before_const c (dats m 0 c) 8 rfl flush0_8 idle0_8 live0_8 (codesOf (xAll m c)) (fun t d => (fill_cut8 t d _).trans (after0_8 m c t)) _ t rfl ht d

theorem before0_9 (c : Dev nD) (t : Fin cfg0.N) (ht : t.val ≠ 0) (d) : (dats m 0 c).before 9 t d = scalesOf (xAll m c) :=
  before_const c (dats m 0 c) 9 rfl flush0_9 idle0_9 live0_9 (scalesOf (xAll m c)) (fun t d => (fill_cut9 t d _).trans (after0_9 m c t)) _ t rfl ht d

/-- A buffer that holds what an output of this kind should is what the body has to leave of it. -/
theorem leaves_const (c : Dev nD) (dat : Dat τ (Elt F) Unit ℕ (UR sig nD τ) ℕ cfg0 c) (w : Fin cfg0.W) (t : Fin cfg0.N)
    (G : (cfg0.win w).block.Idx → Elt F (cfg0.win w).elt) (ha : dat.after w t = G)
    (hb : cfg0.idle w (cfg0.grid.coords t) = true → ∀ d, dat.before w t d = G) :
    (owns (c : Thread nD τ) ((cfg0.win w).stage (cfg0.slots t w)) fullShare G : sProp 𝕄) ⊢ dat.leavesExact w t := by
  unfold Dat.leavesExact
  cases hi : cfg0.idle w (cfg0.grid.coords t) with
  | false => simp only [ha]; exact .rfl
  | true =>
    cases hf : (cfg0.win w).flush t with
    | true => simp only [ha]; exact .rfl
    | false =>
      simp only
      iintro H; iexists G; rw [hb hi]; iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
/-- The body at any point: the inputs' buffers hold their blocks; at the first point the run fills everything, at a later one
    it finds the codes, the scales and the low-rank tables that the first point left, and leaves them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, iblk_x, iblk_a]
  rw [show (dats m 0 c).owesAt () t.succ = (dats m 0 c).owesAt () t.castSucc from rfl,
    Φ_pos m c t.succ (Nat.succ_ne_zero _)]
  have hN : t.val < 18 := lt_of_lt_of_eq t.isLt (show cfg0.N = 18 from N_0)
  rw [show (dats m 0 c).leavesExact 0 t = owns (c : Thread nD τ) (ms0_0 t) fullShare ((dats m 0 c).after 0 t) from rfl, after0_0, iblk_x]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3, iblk_a]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  have L8 := leaves_const c (dats m 0 c) 8 t (codesOf (xAll m c)) (after0_8 m c t) (fun hi d => before0_8 m c t (fun h0 => by rw [live0_8 t h0] at hi; exact Bool.false_ne_true hi) d)
  have L9 := leaves_const c (dats m 0 c) 9 t (scalesOf (xAll m c)) (after0_9 m c t) (fun hi d => before0_9 m c t (fun h0 => by rw [live0_9 t h0] at hi; exact Bool.false_ne_true hi) d)
  unfold kept
  by_cases h0 : t.val % 18 = 0
  · rw [Φ_zero m c t.castSucc (show t.val = 0 by omega), PhiA0_eq]
    unfold outAt normAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun0_A c (grid0.coords t) _ _ _ _ _ _ _ _ _ _ _ _ _ _ _ _ _ _ _ _ _ _ _ _ ((hcond0_0 t).mpr h0) (xAll m c) (iblk m c 1 t) (iblk m c 2 t) (aAll m c) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply L8; iexact H8
    iapply L9; iexact H9
  · rw [Φ_pos m c t.castSucc (show t.val ≠ 0 by omega)]
    simp only [before0_8 m c t (by omega), before0_9 m c t (by omega)]
    unfold outAt kept
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    unfold normAt
    iapply (kernelRun0_B c (grid0.coords t) _ _ _ _ _ _ _ _ _ _ _ _ _ _ _ _ _ _ _ _ _ _ _ _ (fun h => h0 ((hcond0_0 t).mp h)) (xAll m c) (iblk m c 1 t) (iblk m c 2 t) (aAll m c) (iblk m c 4 t) (iblk m c 5 t) (codesOf (xAll m c)) (scalesOf (xAll m c)) (hOf (xAll m c) (aAll m c)) (gOf (aAll m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply L8; iexact H8
    iapply L9; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the scratch buffers hold after the first point is something. -/
theorem kept_out (c : Dev nD) : kept m c ⊢ Pipeline.ΦA spec0 c := by
  rw [PhiA0_eq]; unfold kept
  iintro ⟨⟨HS0, HS1⟩, Hg⟩
  isplitl [HS0 HS1]
  · isplitl [HS0]
    · iexists _; iexact HS0
    iexists _; iexact HS1
  iexact Hg

set_option backward.isDefEq.respectTransparency.types false in
/-- From any memory with zero counters every fair execution terminates with every array as the proof data say and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (Entails.of_eq (Φ_zero m c 0 rfl).symm))
    (hout := fun c => (Entails.of_eq (Φ_pos m c (Fin.last cfg0.N) (by rw [Fin.val_last, show cfg0.N = 18 from N_0]; decide))).trans (kept_out m c))

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Same.lean ====
/-
  The kernel as it is printed for its bits and as it is printed for the extended reals are one program, so that the frame,
  proved for every reading of the floats, holds of the first too.
-/
module

public import proofs.«01_k».proof.Proof.Pipe
public import proofs.«01_k».proof.Proof.Gen.Kernel

@[expose] public section

set_option maxRecDepth 65536

noncomputable section

namespace Cert.Same

open Idealize.ShloMosaic Idealize.SL.Sem

variable {F : FTy → Type} [FloatOps F]

/-- The two bodies are one. -/
theorem body_eq : Cert.Kernel.cc0_dora_fp8 (F := F) = Cert.KernelIdeal.cc0_dora_fp8 (F := F) := rfl

/-- The two body tables agree at every label. -/
theorem table_apply : ∀ p ℓ a, Cert.Kernel.defs₀ (F := F) p ℓ a = Cert.KernelIdeal.defs₀ (F := F) p ℓ a
  | .tc, 0, (_, _) => rfl
  | .tc, ⟨_ + 1, h⟩, _ => absurd h (Nat.not_lt.2 (Nat.le_add_left _ _))
  | .scScalar _, _, _ => rfl
  | .scVector _ _, _, _ => rfl

/-- The two body tables are one. -/
theorem table_eq : Cert.Kernel.defs₀ (F := F) = Cert.KernelIdeal.defs₀ (F := F) :=
  funext fun p => funext fun ℓ => funext fun a => table_apply p ℓ a

/-- The two tables of bodies, regions and pipelines are one. -/
theorem defs_eq : Cert.KernelIdeal.defs (F := F) = Cert.Kernel.defs (F := F) :=
  congrArg (Pipeline.defs (Cert.KernelIdeal.pcfgs (F := F))) (table_eq (F := F)).symm

/-- The two main programs are one. -/
theorem main_eq : Cert.KernelIdeal.main (F := F) = Cert.Kernel.main (F := F) := rfl

/-- The frame of the kernel as printed for its bits. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  have h := Cert.KernelIdeal.Hand.frame (F := F) m ρ
  rw [defs_eq, main_eq] at h
  exact h

end Cert.Same

end
-- ==== Proof.Exponent.lean ====
/-
  The row exponent, as arithmetic of extended reals. One program counts the powers of two (the float words with an empty
  fraction field) that are at most the row's value `v`; the other takes `⌊log v / log 2⌋ + 1`. For `v` zero, or between
  `2^-126` and `2^126`, the two give the same scale `2^e` and the same inverse scale `2^-e`.
-/
module

public import Idealize.ShloMosaic.PureOps.Ideal
public import Idealize.ShloMosaic.Lib.Pipeline.Value
public import Mathlib.Analysis.SpecialFunctions.Log.Basic

@[expose] public section

noncomputable section

namespace Cert.Dora

open Idealize.ShloMosaic

/-- The float word with exponent field `k` and nothing else. -/
abbrev powWord (k : ℕ) : BitVec 32 := BitVec.ofNat 32 k <<< 23

theorem powWord_fields {k : ℕ} (hk : k < 256) :
    ((powWord k).extractLsb' (8 + 23) 1 = 0#1) ∧ ((powWord k).extractLsb' 23 8).toNat = k
      ∧ ((powWord k).extractLsb' 0 23).toNat = 0 := by
  have h : (powWord k).toNat = k * 2 ^ 23 := by
    rw [BitVec.toNat_shiftLeft, BitVec.toNat_ofNat, Nat.shiftLeft_eq]; omega
  refine ⟨BitVec.eq_of_toNat_eq ?_, ?_, ?_⟩ <;>
    rw [BitVec.extractLsb'_toNat, h, Nat.shiftRight_eq_div_pow] <;> simp <;> omega

/-- Field 0 is the number zero. -/
theorem value_powWord_zero : Ideal.ofBits .f32 (powWord 0) = ((0 : ℝ) : EReal) := by
  obtain ⟨h1, h2, h3⟩ := powWord_fields (k := 0) (by omega)
  simp only [Ideal.ofBits, Ideal.ieee, h1, h2, h3]
  norm_num

/-- Field `1 ≤ k ≤ 254` is the power of two `2^(k-127)`. -/
theorem value_powWord {k : ℕ} (h1 : 1 ≤ k) (h2 : k ≤ 254) :
    Ideal.ofBits .f32 (powWord k) = (((2 : ℝ) ^ ((k : ℤ) - 127) : ℝ) : EReal) := by
  obtain ⟨e1, e2, e3⟩ := powWord_fields (k := k) (by omega)
  simp only [Ideal.ofBits, Ideal.ieee, e1, e2, e3]
  rw [if_neg (by norm_num; omega), if_neg (by omega)]
  norm_num
  rw [← EReal.coe_mul, EReal.coe_eq_coe_iff, zpow_sub₀ (by norm_num) ((k : ℤ) - 127) 23]
  norm_num
  ring

/-- Field 255 is plus infinity. -/
theorem value_powWord_top : Ideal.ofBits .f32 (powWord 255) = ⊤ := by
  obtain ⟨e1, e2, e3⟩ := powWord_fields (k := 255) (by omega)
  simp only [Ideal.ofBits, Ideal.ieee, e1, e2, e3]
  norm_num

/-- The integer part of the binary logarithm. -/
def ilog (r : ℝ) : ℤ := ⌊Real.log r / Real.log 2⌋

theorem zpow_le_iff {r : ℝ} (hr : 0 < r) (k : ℤ) : (2 : ℝ) ^ k ≤ r ↔ k ≤ ilog r := by
  have h2 : 0 < Real.log 2 := Real.log_pos (by norm_num)
  rw [ilog, Int.le_floor, le_div_iff₀ h2, ← Real.log_zpow, Real.log_le_log_iff (by positivity) hr]

/-- The number of powers of two at most the real `r ≥ 2^-126` (below `2^127`), zero among them, is `⌊log₂ r⌋ + 128`. -/
theorem count_powers {r : ℝ} (hlo : (2 : ℝ) ^ (-126 : ℤ) ≤ r) (hhi : r < (2 : ℝ) ^ (126 : ℤ)) :
    (Finset.univ.filter fun k : Fin 256 => Ideal.ofBits .f32 (powWord k.val) ≤ ((r : ℝ) : EReal)).card
      = (ilog r + 128).toNat := by
  have hr : 0 < r := lt_of_lt_of_le (by positivity) hlo
  have hl : -126 ≤ ilog r := (zpow_le_iff hr _).mp hlo
  have hh : ilog r < 126 := not_le.mp fun h => absurd ((zpow_le_iff hr _).mpr h) (not_le.mpr hhi)
  have key : ∀ k : Fin 256, Ideal.ofBits .f32 (powWord k.val) ≤ ((r : ℝ) : EReal) ↔ k.val < (ilog r + 128).toNat := by
    intro k
    rcases Nat.eq_zero_or_pos k.val with h0 | h0
    · rw [h0, value_powWord_zero, EReal.coe_le_coe_iff]
      constructor
      · intro _; omega
      · intro _; exact hr.le
    · rcases Nat.lt_or_ge k.val 255 with h1 | h1
      · rw [value_powWord h0 (by omega), EReal.coe_le_coe_iff,
          zpow_le_iff hr]
        omega
      · have h2 : k.val = 255 := by have := k.isLt; omega
        rw [h2, value_powWord_top]
        constructor
        · intro h; exact absurd (top_le_iff.mp h) (EReal.coe_ne_top r)
        · intro h; omega
  rw [Finset.filter_congr (fun k _ => key k), Fin.card_filter_val_lt]
  omega

/-- Of zero, only zero itself. -/
theorem count_powers_zero :
    (Finset.univ.filter fun k : Fin 256 => Ideal.ofBits .f32 (powWord k.val) ≤ ((0 : ℝ) : EReal)).card = 1 := by
  have key : ∀ k : Fin 256, Ideal.ofBits .f32 (powWord k.val) ≤ ((0 : ℝ) : EReal) ↔ k.val < 1 := by
    intro k
    rcases Nat.eq_zero_or_pos k.val with h0 | h0
    · rw [h0, value_powWord_zero]; simp
    · rcases Nat.lt_or_ge k.val 255 with h1 | h1
      · rw [value_powWord h0 (by omega), EReal.coe_le_coe_iff]
        have : (0 : ℝ) < (2 : ℝ) ^ ((k.val : ℤ) - 127) := by positivity
        constructor
        · intro h; exact absurd h (not_le.mpr this)
        · intro h; omega
      · have h2 : k.val = 255 := by have := k.isLt; omega
        rw [h2, value_powWord_top]
        constructor
        · intro h; exact absurd (top_le_iff.mp h) (EReal.coe_ne_top 0)
        · intro h; omega
  rw [Finset.filter_congr (fun k _ => key k), Fin.card_filter_val_lt]
  omega

/-- The floor of the quotient of logarithms is the integer logarithm. -/
theorem floor_log_div {r : ℝ} (hr : 0 < r) :
    Ideal.liftRound Int.floor (Ideal.div (Ideal.log ((r : ℝ) : EReal)) ((Real.log 2 : ℝ) : EReal))
      = (((ilog r : ℤ) : ℝ) : EReal) := by
  have h2 : Real.log 2 ≠ 0 := (Real.log_pos (by norm_num)).ne'
  rw [Ideal.log_coe, if_neg (not_le.mpr hr)]
  unfold Ideal.div
  rw [if_neg (by exact_mod_cast h2), ← EReal.coe_inv, ← EReal.coe_mul]
  show (((⌊Real.log r * (Real.log 2)⁻¹⌋ : ℤ) : ℝ) : EReal) = _
  rw [← div_eq_mul_inv]
  rfl

/-- `2^e` at an integer `e`. -/
theorem exp2_int (e : ℤ) : Ideal.exp2 (((e : ℤ) : ℝ) : EReal) = (((2 : ℝ) ^ e : ℝ) : EReal) := by
  rw [Ideal.exp2_coe]; exact congrArg _ (Real.rpow_intCast 2 e)

end Cert.Dora

end
-- ==== Proof.Spec.lean ====
/-
  The row quantiser, as arithmetic of extended reals: a row's largest magnitude, the exponent that one program counts and the
  other takes by a logarithm, and the proof that both give the same scale and the same inverse scale.
-/
module

public import proofs.«01_k».proof.Proof.Exponent

@[expose] public section

noncomputable section

namespace Cert.Dora

open Idealize.ShloMosaic

/-- The float nearest `1/448`. -/
def c448 : EReal := Ideal.ofBits .f32 0x3B124925#32

theorem c448_eq : c448 = ((9586981 / 4294967296 : ℝ) : EReal) := by
  have h1 : ((0x3B124925#32 : BitVec 32).extractLsb' (8 + 23) 1 = 1#1) = False := by decide
  have h2 : ((0x3B124925#32 : BitVec 32).extractLsb' 23 8).toNat = 118 := by decide
  have h3 : ((0x3B124925#32 : BitVec 32).extractLsb' 0 23).toNat = 1198373 := by decide
  simp only [c448, Ideal.ofBits, Ideal.ieee, h1, h2, h3]
  norm_num
  decide

/-- The largest magnitude of a row. -/
def rowMax {n : ℕ} (f : Fin n → EReal) : EReal :=
  (Finset.univ : Finset (Fin n)).fold max (Ideal.ofBits .f32 0xFF800000#32) fun k => max (f k) (-(f k))

/-- The exponent as a counted word: one less than the number of powers of two that are at most `v`, unbiased; zero if that
    is zero. -/
def expWord (v : EReal) : BitVec 32 :=
  if BitVec.ofNat 32 (Finset.univ.filter fun k : Fin 256 => Ideal.ofBits .f32 (powWord k.val) ≤ v).card - 1#32 = 0#32 then 0#32
  else BitVec.ofNat 32 (Finset.univ.filter fun k : Fin 256 => Ideal.ofBits .f32 (powWord k.val) ≤ v).card - 1#32 - 126#32

/-- The exponent as a number: one more than the floor of the binary logarithm of `a / 448`; zero for `a = 0`. -/
def expReal (a : EReal) : EReal :=
  if a = 0 then 0 else Ideal.liftRound Int.floor (Ideal.div (Ideal.log (a * c448)) ((Real.log 2 : ℝ) : EReal)) + 1

/-- A row's scale. -/
def scaleVal {n : ℕ} (f : Fin n → EReal) : EReal := Ideal.exp2 (expReal (rowMax f))

/-- A row's code at `j`: its entry over the scale, clipped to 448 either way. -/
def codeVal {n : ℕ} (f : Fin n → EReal) (j : Fin n) : EReal :=
  min (Ideal.ofBits .f32 0x43E00000#32) (max (Ideal.ofBits .f32 0xC3E00000#32) (f j * Ideal.exp2 (0 - expReal (rowMax f))))

/-- One half, as the programs write it. -/
def half : EReal := Ideal.ofBits .f32 0x3F000000#32

/-- A norm to divide by: one in place of zero. -/
def safe (n : EReal) : EReal :=
  Scalar.select (FloatOps.cmpf (F := Ideal) (φ := .f32) .ogt n (Ideal.ofBits .f32 0x00000000#32)) n (Ideal.ofBits .f32 0x3F800000#32)

/-- An entry of the result: the product of a row's codes `c` with a row of the weight's codes, times the two scales, plus half
    the low-rank product, times the magnitude over the norm. -/
def outVal (c w : Fin 7168 → EReal) (sc s : EReal) (h b : Fin 64 → EReal) (m n : EReal) : EReal :=
  ((∑ l, c l * w l) * sc * s + half * ∑ r, h r * b r) * Ideal.div m (safe n)

/-- An entry of the merged weight: the scaled code plus half the low-rank entry. -/
def merged (w : Fin 7168 → EReal) (s : EReal) (A : Fin 64 → Fin 7168 → EReal) (b : Fin 64 → EReal) (l : Fin 7168) : EReal :=
  w l * s + half * ∑ r, b r * A r l

/-- The norm of a row of the merged weight. -/
def normVal (w : Fin 7168 → EReal) (s : EReal) (A : Fin 64 → Fin 7168 → EReal) (b : Fin 64 → EReal) : EReal :=
  Ideal.sqrt (∑ l, merged w s A b l * merged w s A b l)

/-- A row whose largest magnitude, over 448, is zero or in the range of the normal floats below `2^126`. -/
def Readable (a : EReal) : Prop :=
  a * c448 = 0 ∨ (((2 : ℝ) ^ (-126 : ℤ) : ℝ) : EReal) ≤ a * c448 ∧ a * c448 < (((2 : ℝ) ^ (126 : ℤ) : ℝ) : EReal)

/-- A readable row is zero, or its exponent is an integer in range: the counted word is that integer and the number is it too. -/
theorem readable_cases {a : EReal} (h : Readable a) :
    (expWord (a * c448) = 0#32 ∧ expReal a = 0) ∨
    ∃ n : ℕ, 2 ≤ n ∧ n ≤ 253 ∧ expWord (a * c448) = BitVec.ofNat 32 n - 1#32 - 126#32
      ∧ expReal a = ((((n : ℤ) - 127 : ℤ) : ℝ) : EReal) := by
  rcases h with h0 | ⟨h1, h2⟩
  · left
    have ha : a = 0 := by
      rcases mul_eq_zero.mp h0 with h | h
      · exact h
      · rw [c448_eq] at h; norm_num at h
    refine ⟨?_, by rw [expReal, if_pos ha]⟩
    have := count_powers_zero
    rw [h0, expWord]
    rw [show (Finset.univ.filter fun k : Fin 256 => Ideal.ofBits .f32 (powWord k.val) ≤ (0 : EReal)).card = 1 from this]
    rfl
  · right
    obtain ⟨r, hr⟩ : ∃ r : ℝ, a * c448 = (r : EReal) := by
      induction hv : a * c448 using EReal.rec with
      | bot => rw [hv] at h1; exact absurd h1 (not_le.mpr (EReal.bot_lt_coe _))
      | top => rw [hv] at h2; exact absurd h2 (not_lt.mpr le_top)
      | coe r => exact ⟨r, rfl⟩
    rw [hr] at h1 h2
    have h1' := EReal.coe_le_coe_iff.mp h1
    have h2' := EReal.coe_lt_coe_iff.mp h2
    have hpos : 0 < r := lt_of_lt_of_le (by positivity) h1'
    have hlo : (-126 : ℤ) ≤ ilog r := (zpow_le_iff hpos _).mp h1'
    have hhi : ilog r < 126 := by
      by_contra hc
      exact absurd ((zpow_le_iff hpos 126).mpr (not_lt.mp hc)) (not_le.mpr h2')
    have hc := count_powers h1' h2'
    refine ⟨(ilog r + 128).toNat, by omega, by omega, ?_, ?_⟩
    · rw [hr, expWord, hc, if_neg]
      intro hz
      have := congrArg BitVec.toNat hz
      simp only [BitVec.toNat_sub, BitVec.toNat_ofNat] at this
      omega
    · have ha : a ≠ 0 := by
        rintro rfl
        rw [zero_mul] at hr
        have : r = 0 := by exact_mod_cast hr.symm
        exact absurd this hpos.ne'
      rw [expReal, if_neg ha, hr, floor_log_div hpos]
      rw [← EReal.coe_one, ← EReal.coe_add, EReal.coe_eq_coe_iff, Int.toNat_of_nonneg (by omega)]
      push_cast; ring

/-- The two scales agree. -/
theorem scale_eq {a : EReal} (h : Readable a) :
    Ideal.ofBits .f32 ((expWord (a * c448) + 127#32) <<< 23) = Ideal.exp2 (expReal a) := by
  rcases readable_cases h with ⟨h1, h2⟩ | ⟨n, hn1, hn2, h1, h2⟩
  · rw [h1, h2]
    have e1 := value_powWord (k := 127) (by omega) (by omega)
    have e2 := exp2_int 0
    simp only [Int.cast_zero, EReal.coe_zero] at e2
    rw [e2]
    refine Eq.trans (congrArg _ ?_) (e1.trans (by norm_num))
    rfl
  · have hw : BitVec.ofNat 32 n - 1#32 - 126#32 + 127#32 = BitVec.ofNat 32 n := by
      apply BitVec.eq_of_toNat_eq
      simp only [BitVec.toNat_add, BitVec.toNat_sub, BitVec.toNat_ofNat]
      omega
    rw [h1, h2, hw, exp2_int]
    exact value_powWord (by omega) (by omega)

/-- The two inverse scales agree. -/
theorem inv_eq {a : EReal} (h : Readable a) :
    Ideal.ofBits .f32 ((0#32 - expWord (a * c448) + 127#32) <<< 23) = Ideal.exp2 (0 - expReal a) := by
  rcases readable_cases h with ⟨h1, h2⟩ | ⟨n, hn1, hn2, h1, h2⟩
  · rw [h1, h2]
    have e1 := value_powWord (k := 127) (by omega) (by omega)
    have e2 := exp2_int 0
    simp only [Int.cast_zero, EReal.coe_zero] at e2
    rw [sub_zero, e2]
    refine Eq.trans (congrArg _ ?_) (e1.trans (by norm_num))
    rfl
  · have hw : 0#32 - (BitVec.ofNat 32 n - 1#32 - 126#32) + 127#32 = BitVec.ofNat 32 (254 - n) := by
      apply BitVec.eq_of_toNat_eq
      simp only [BitVec.toNat_add, BitVec.toNat_sub, BitVec.toNat_ofNat]
      omega
    have hs : (0 : EReal) - ((((n : ℤ) - 127 : ℤ) : ℝ) : EReal) = (((127 - (n : ℤ) : ℤ) : ℝ) : EReal) := by
      rw [← EReal.coe_zero, ← EReal.coe_sub, EReal.coe_eq_coe_iff]; push_cast; ring
    rw [h1, h2, hw, hs, exp2_int]
    refine (value_powWord (k := 254 - n) (by omega) (by omega)).trans ?_
    rw [show (((254 - n : ℕ) : ℤ) - 127) = 127 - (n : ℤ) by omega]

end Cert.Dora
-- ==== Proof.NormMath.lean ====
/-
  The square of a merged row's norm, expanded: the scaled sum of the codes' squares, the cross term and the square of the
  low-rank row, over the reals and then for the extended reals that are real.
-/
module

public import proofs.«01_k».proof.Proof.Spec

@[expose] public section

noncomputable section

namespace Cert.Dora

open Idealize.ShloMosaic

/-- Being a real number. -/
def Fin' (x : EReal) : Prop := ∃ r : ℝ, x = r

/-- The finite sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The expansion over the reals. -/
theorem expand_real {p q : ℕ} (w : Fin p → ℝ) (s : ℝ) (A : Fin q → Fin p → ℝ) (b : Fin q → ℝ) :
    s * s * (∑ l, w l * w l) + ∑ r, b r * (1 * (s * ∑ l, A r l * w l) + 1 / 4 * (((∑ t, (∑ l, A r l * A t l) * b t) + ∑ t : Fin q, 0 * b t) + ∑ t : Fin q, 0 * b t))
      = ∑ l, (w l * s + 1 / 2 * ∑ r, b r * A r l) * (w l * s + 1 / 2 * ∑ r, b r * A r l) := by
  have h1 : ∑ r, b r * (s * ∑ l, A r l * w l) = ∑ l, w l * s * ∑ r, b r * A r l := by
    simp only [Finset.mul_sum]
    rw [Finset.sum_comm]
    exact Finset.sum_congr rfl fun l _ => Finset.sum_congr rfl fun r _ => by ring
  have h2 : ∑ r, b r * (∑ t, (∑ l, A r l * A t l) * b t) = ∑ l, (∑ r, b r * A r l) * (∑ r, b r * A r l) := by
    have : ∀ l, (∑ r, b r * A r l) * (∑ r, b r * A r l) = ∑ r, ∑ t, (b r * A r l) * (b t * A t l) := fun l => Finset.sum_mul_sum _ _ _ _
    simp only [this]
    refine Eq.trans ?_ Finset.sum_comm
    refine Finset.sum_congr rfl fun r _ => ?_
    refine Eq.trans ?_ Finset.sum_comm
    rw [Finset.mul_sum]
    refine Finset.sum_congr rfl fun t _ => ?_
    rw [Finset.sum_mul, Finset.mul_sum]
    exact Finset.sum_congr rfl fun l _ => by ring
  have h3 : ∀ l, (w l * s + 1 / 2 * ∑ r, b r * A r l) * (w l * s + 1 / 2 * ∑ r, b r * A r l)
      = s * s * (w l * w l) + w l * s * (∑ r, b r * A r l) + 1 / 4 * ((∑ r, b r * A r l) * (∑ r, b r * A r l)) := fun l => by ring
  simp only [h3, Finset.sum_add_distrib]
  rw [← Finset.mul_sum Finset.univ (fun l => w l * w l), ← Finset.mul_sum Finset.univ (fun l => (∑ r, b r * A r l) * (∑ r, b r * A r l)), ← h1, ← h2]
  simp only [zero_mul, Finset.sum_const_zero, add_zero, one_mul, mul_add, Finset.sum_add_distrib]
  rw [add_assoc]
  congr 2
  rw [Finset.mul_sum]
  exact Finset.sum_congr rfl fun r _ => by ring

/-- One quarter, as the program writes it. -/
def quarter : EReal := Ideal.ofBits .f32 0x3E800000#32

theorem quarter_eq : quarter = ((1 / 4 : ℝ) : EReal) := by
  have h1 : ((0x3E800000#32 : BitVec 32).extractLsb' (8 + 23) 1 = 1#1) = False := by decide
  have h2 : ((0x3E800000#32 : BitVec 32).extractLsb' 23 8).toNat = 125 := by decide
  have h3 : ((0x3E800000#32 : BitVec 32).extractLsb' 0 23).toNat = 0 := by decide
  unfold quarter
  simp only [Ideal.ofBits, Ideal.ieee, h1, h2, h3]; norm_num
  decide

theorem half_eq : half = ((1 / 2 : ℝ) : EReal) := by
  have h1 : ((0x3F000000#32 : BitVec 32).extractLsb' (8 + 23) 1 = 1#1) = False := by decide
  have h2 : ((0x3F000000#32 : BitVec 32).extractLsb' 23 8).toNat = 126 := by decide
  have h3 : ((0x3F000000#32 : BitVec 32).extractLsb' 0 23).toNat = 0 := by decide
  unfold half
  simp only [Ideal.ofBits, Ideal.ieee, h1, h2, h3]; norm_num
  decide

/-- The expansion, of real codes, scale and low-rank factors: the norm from the expanded square, kept nonnegative. -/
theorem expand (w : Fin 7168 → EReal) (s : EReal) (A : Fin 64 → Fin 7168 → EReal) (b : Fin 64 → EReal)
    (hw : ∀ l, Fin' (w l)) (hs : Fin' s) (hA : ∀ r l, Fin' (A r l)) (hb : ∀ r, Fin' (b r)) :
    Ideal.sqrt (max (s * s * (∑ l, w l * w l) + ∑ r, b r * ((1 : EReal) * (s * ∑ l, A r l * w l)
      + quarter * (((∑ t, (∑ l, A r l * A t l) * b t) + ∑ t : Fin 64, 0 * b t) + ∑ t : Fin 64, 0 * b t))) 0) = normVal w s A b := by
  choose w' hw' using hw
  obtain ⟨s', rfl⟩ := hs
  choose A' hA' using hA
  choose b' hb' using hb
  unfold normVal merged
  simp only [hw', hA', hb', quarter_eq, half_eq]
  simp only [← EReal.coe_mul, ← coe_sum, ← EReal.coe_add, ← EReal.coe_one, ← EReal.coe_zero]
  rw [expand_real w' s' A' b', max_eq_left]
  exact EReal.coe_le_coe_iff.mpr (Finset.sum_nonneg fun l _ => mul_self_nonneg _)

end Cert.Dora

end
-- ==== Proof.Ops.lean ====
/-
  The vector operations of the two programs at an index, for every extent: spreading a row or a column over a block, a vector
  read as a row or a column, the transpose, the sum and the largest magnitude of a row, and the two matrix products.
-/
module

public import proofs.«01_k».proof.Proof.Spec
public import Idealize.ShloMosaic.Lib.MatmulPlain
public import Idealize.ShloMosaic.Lib.ValueIdx
public import Idealize.ShloMosaic.Lib.ValueIdxRank1
public import Idealize.ShloMosaic.Lib.IndicatorCount
public import Idealize.ShloMosaic.Lib.Pointwise.Tactic

@[expose] public section

noncomputable section

namespace Cert.Dora

open Idealize.ShloMosaic hiding ix1 ix2
open Idealize.ShloMosaic.ValueIdx Idealize.ShloMosaic.IndicatorCount

variable {α : Type} {n k : ℕ}

/-- A column spread over a block reads its row's entry. -/
theorem spread_col (hn : n ≠ 1) (y : (⟨2, ![n, 1]⟩ : Shape).Idx → α) (h : (⟨2, ![n, 1]⟩ : Shape).Broadcasts ⟨2, ![n, k]⟩)
    (i : Fin n) (j : Fin k) : broadcastTo (⟨2, ![n, k]⟩ : Shape) y h (ix2 i j) = y (ix2 i 0) := by
  refine broadcastTo_apply y h (ix2 i j) (ix2 i 0) fun a => ?_
  match a with
  | ⟨0, _⟩ => exact (if_neg hn).symm
  | ⟨1, _⟩ => rfl

/-- A row spread over a block reads its column's entry. -/
theorem spread_row (hn : n ≠ 1) (y : (⟨2, ![1, n]⟩ : Shape).Idx → α) (h : (⟨2, ![1, n]⟩ : Shape).Broadcasts ⟨2, ![k, n]⟩)
    (i : Fin k) (j : Fin n) : broadcastTo (⟨2, ![k, n]⟩ : Shape) y h (ix2 i j) = y (ix2 0 j) := by
  refine broadcastTo_apply y h (ix2 i j) (ix2 0 j) fun a => ?_
  match a with
  | ⟨0, _⟩ => rfl
  | ⟨1, _⟩ => exact (if_neg hn).symm

/-- A vector cast to a column. -/
theorem cast_col (y : (⟨1, ![n]⟩ : Shape).Idx → α) (h : (⟨1, ![n]⟩ : Shape).ShapeCasts ⟨2, ![n, 1]⟩) (i : Fin n) (j : Fin 1) :
    shapeCast (⟨2, ![n, 1]⟩ : Shape) y h (ix2 i j) = y (ix1 i) := by
  refine shapeCast_apply y h (ix2 i j) (ix1 i) ?_
  rw [Shape.rowMajor_val_one, Shape.rowMajor_val_two]
  have := j.isLt
  show i.val = i.val * 1 + j.val
  omega

/-- A vector cast to a row. -/
theorem cast_row (y : (⟨1, ![n]⟩ : Shape).Idx → α) (h : (⟨1, ![n]⟩ : Shape).ShapeCasts ⟨2, ![1, n]⟩) (i : Fin 1) (j : Fin n) :
    shapeCast (⟨2, ![1, n]⟩ : Shape) y h (ix2 i j) = y (ix1 j) := by
  refine shapeCast_apply y h (ix2 i j) (ix1 j) ?_
  rw [Shape.rowMajor_val_one, Shape.rowMajor_val_two]
  have := i.isLt
  show j.val = i.val * n + j.val
  have h0 : i.val = 0 := by omega
  rw [h0]; omega

/-- The transpose. -/
theorem transpose_at (y : (⟨2, ![n, k]⟩ : Shape).Idx → α) (h : (⟨2, ![n, k]⟩ : Shape).Transposes [1, 0] ⟨2, ![k, n]⟩)
    (i : Fin k) (j : Fin n) : transpose (⟨2, ![k, n]⟩ : Shape) [1, 0] y h (ix2 i j) = y (ix2 j i) := by
  refine transpose_apply [1, 0] y h (ix2 i j) (ix2 j i) fun b => ?_
  match b with
  | ⟨0, _⟩ => rfl
  | ⟨1, _⟩ => rfl

/-- The index that a reduction over the columns reads. -/
theorem lift_row (h : (⟨2, ![n, k]⟩ : Shape).Reduces [1] ⟨1, ![n]⟩) (i : Fin n) (j : Fin k) : h.lift (ix1 i) j = ix2 i j := by
  funext a
  match a with
  | ⟨0, _⟩ => rfl
  | ⟨1, _⟩ => rfl

/-- The index that a reduction over the rows reads. -/
theorem lift_col (h : (⟨2, ![n, k]⟩ : Shape).Reduces [0] ⟨1, ![k]⟩) (i : Fin n) (j : Fin k) : h.lift (ix1 j) i = ix2 i j := by
  funext a
  match a with
  | ⟨0, _⟩ => rfl
  | ⟨1, _⟩ => rfl

/-- The sum of a row. -/
theorem sum_row (y : FVec Ideal ⟨2, ![n, k]⟩ .f32) (b : BitVec 32) (h : (⟨2, ![n, k]⟩ : Shape).Reduces [1] ⟨1, ![n]⟩)
    (hφ : FKind.Formats .f32) (hb : b = FKind.add.neutral .f32 hφ) (i : Fin n) :
    multiReduction .add [1] ⟨1, ![n]⟩ y b h hφ hb (ix1 i) = ∑ j : Fin k, y (ix2 i j) :=
  (Ideal.multiReduction_add_single y b h hφ hb (ix1 i)).trans
    (Finset.sum_congr rfl fun j _ => congrArg y (lift_row h i j))

/-- The sum of a column. -/
theorem sum_col (y : FVec Ideal ⟨2, ![n, k]⟩ .f32) (b : BitVec 32) (h : (⟨2, ![n, k]⟩ : Shape).Reduces [0] ⟨1, ![k]⟩)
    (hφ : FKind.Formats .f32) (hb : b = FKind.add.neutral .f32 hφ) (j : Fin k) :
    multiReduction .add [0] ⟨1, ![k]⟩ y b h hφ hb (ix1 j) = ∑ i : Fin n, y (ix2 i j) :=
  (Ideal.multiReduction_add_single y b h hφ hb (ix1 j)).trans
    (Finset.sum_congr rfl fun i _ => congrArg y (lift_col h i j))

/-- The largest magnitude of a row. -/
theorem max_row (y : FVec Ideal ⟨2, ![n, k]⟩ .f32) (h : (⟨2, ![n, k]⟩ : Shape).Reduces [1] ⟨1, ![n]⟩)
    (hφ : FKind.Formats .f32) (hb : (0xFF800000#32 : BitVec 32) = FKind.maximumf.neutral .f32 hφ) (i : Fin n) :
    multiReduction .maximumf [1] ⟨1, ![n]⟩ (absf y) 0xFF800000#32 h hφ hb (ix1 i) = rowMax fun j : Fin k => y (ix2 i j) :=
  (Ideal.multiReduction_maximumf_single (absf y) 0xFF800000#32 h hφ hb (ix1 i)).trans
    (Finset.fold_congr fun j _ => congrArg (fun z => max (y z) (-(y z))) (lift_row h i j))

/-- How many of a row's conditions hold. -/
theorem count_row (p : IVec ⟨2, ![n, k]⟩ 1) (h1 : 1 < 32) (h : (⟨2, ![n, k]⟩ : Shape).Reduces [1] ⟨1, ![n]⟩)
    (hb : (0#32 : BitVec 32) = IKind.add.neutral) (i : Fin n) :
    multiReductionI .add [1] ⟨1, ![n]⟩ (extui 32 p h1) 0#32 h hb (ix1 i)
      = BitVec.ofNat 32 (Finset.univ.filter fun j : Fin k => p (ix2 i j) = 1#1).card := by
  rw [multiReductionI_eq_fold, ← fold_addi_setWidth_eq_card]
  refine (h.fold_filter_drop_single _ _ _ (ix1 i)).trans ?_
  exact Finset.fold_congr fun j _ => congrArg (fun z => (p z).setWidth 32) (lift_row h i j)

/-- The product with the second factor transposed, from zero. -/
theorem dot_nt {m n k : ℕ} {φ ψ : FTy} (D : DotDims ⟨2, ![m, k]⟩ ⟨2, ![n, k]⟩ ⟨2, ![m, n]⟩) (hD : D = DotDims.transposedRhs m k n)
    (x : FVec Ideal ⟨2, ![m, k]⟩ φ) (y : FVec Ideal ⟨2, ![n, k]⟩ ψ) (i : Fin m) (j : Fin n) :
    matmul D none x y (constant ⟨2, ![m, n]⟩ .f32 0x00000000#32) (ix2 i j) = ∑ l : Fin k, x (ix2 i l) * y (ix2 j l) := by
  subst hD
  refine (Ideal.matmul_transposedRhs_apply none x y _ i j).trans ?_
  rw [constant_apply, Ideal.ofBits_zero_f32, zero_add]

/-- The plain product, from zero. -/
theorem dot_nn {m n k : ℕ} {φ ψ : FTy} (D : DotDims ⟨2, ![m, k]⟩ ⟨2, ![k, n]⟩ ⟨2, ![m, n]⟩) (hD : D = DotDims.plain m k n)
    (x : FVec Ideal ⟨2, ![m, k]⟩ φ) (y : FVec Ideal ⟨2, ![k, n]⟩ ψ) (i : Fin m) (j : Fin n) :
    matmul D none x y (constant ⟨2, ![m, n]⟩ .f32 0x00000000#32) (ix2 i j) = ∑ l : Fin k, x (ix2 i l) * y (ix2 l j) := by
  subst hD
  refine (Ideal.matmul_plain_apply none x y _ i j).trans ?_
  rw [constant_apply, Ideal.ofBits_zero_f32, zero_add]

end Cert.Dora
-- ==== Proof.Pre.lean ====
/-
  What the precondition says: the activations' rows are readable, and the weight codes, their scales and the two low-rank
  factors are real.
-/
module

public import proofs.«01_k».proof.Pre_readable
public import proofs.«01_k».proof.Proof.NormMath
public import proofs.«01_k».proof.Proof.Ops
public import Idealize.ShloMosaic.Lib.KernelVsHost

@[expose] public section

set_option maxRecDepth 16384

noncomputable section

namespace Cert.Pre_readable

open Idealize.ShloMosaic hiding ix1 ix2 ix3
open Idealize.ShloMosaic.ValueIdx
open Cert.Dora

/-- The side conditions of the precondition's operations. -/
theorem facts : Cert.Pre_readable.Facts where
  bitsLt_bf16_f32 := by decide
  reducesTo_S2x128x7168_S2x128_d2 := by decide
  h_S_ := by decide
  bcast_S_S2x128 := by decide
  natLt_8_32 := by decide
  bcast_S_S18432x7168 := by decide
  bcast_S_S18432 := by decide
  bcast_S_S64x7168 := by decide
  bcast_S_S18432x64 := by decide

section Components

variable [h : Cert.Pre_readable.Facts] {F : FTy → Type} [FloatOps F]
variable (x : FVec F S2x128x7168 .bf16) (b : IVec S18432x7168 8) (s : FVec F S18432 .f32) (A : FVec F S64x7168 .bf16) (B : FVec F S18432x64 .bf16) (g : FVec F S18432 .f32)

/-- A scalar spread over an array. -/
abbrev splat {t : Shape} (hb : S_.BroadcastsInDim t (![] : Fin 0 → Fin t.rank)) (φ : FTy) (w : BitVec φ.bits) : FVec F t φ :=
  broadcastInDim t ![] hb (constant S_ φ w)

/-- Each row's largest magnitude over 448. -/
def v4 : FVec F S2x128 .f32 :=
  mulf (Host.reduce FloatOps.maximumf (Host.absf (extf .f32 x h.bitsLt_bf16_f32)) (constant S_ .f32 0xFF800000#32) h.reducesTo_S2x128x7168_S2x128_d2 h.h_S_)
    (splat h.bcast_S_S2x128 .f32 0x3B124925#32)

theorem fn_1 : (fn x b s A B g).1 = ori (cmpf .oeq (v4 x) (splat h.bcast_S_S2x128 .f32 0x00000000#32))
    (andi (cmpf .oge (v4 x) (splat h.bcast_S_S2x128 .f32 0x00800000#32)) (cmpf .olt (v4 x) (splat h.bcast_S_S2x128 .f32 0x7E800000#32))) := rfl
theorem fn_1_at (j : S2x128.Idx) : (fn x b s A B g).1 j = IntOp.ori (FloatOps.cmpf .oeq (v4 x j) (FloatOps.ofBits .f32 0x00000000#32))
    (IntOp.andi (FloatOps.cmpf .oge (v4 x j) (FloatOps.ofBits .f32 0x00800000#32)) (FloatOps.cmpf .olt (v4 x j) (FloatOps.ofBits .f32 0x7E800000#32))) := rfl
theorem fn_2 : (fn x b s A B g).2.1 = cmpi .ne (andi (extui 32 b h.natLt_8_32) (broadcastInDim S18432x7168 ![] h.bcast_S_S18432x7168 (constantI S_ 32 127#32)))
    (broadcastInDim S18432x7168 ![] h.bcast_S_S18432x7168 (constantI S_ 32 127#32)) := rfl
theorem fn_3 : (fn x b s A B g).2.2.1 = cmpf .olt (Host.absf s) (splat h.bcast_S_S18432 .f32 0x7F800000#32) := rfl
theorem fn_4 : (fn x b s A B g).2.2.2.1 = cmpf .olt (Host.absf A) (splat h.bcast_S_S64x7168 .bf16 0x7F80#16) := rfl
theorem fn_5 : (fn x b s A B g).2.2.2.2 = cmpf .olt (Host.absf B) (splat h.bcast_S_S18432x64 .bf16 0x7F80#16) := rfl

end Components

theorem inf32 : Ideal.ofBits .f32 0x7F800000#32 = ⊤ := by
  have h1 : ((0x7F800000#32 : BitVec 32).extractLsb' (8 + 23) 1 = 1#1) = False := by decide
  have h2 : ((0x7F800000#32 : BitVec 32).extractLsb' 23 8).toNat = 255 := by decide
  have h3 : ((0x7F800000#32 : BitVec 32).extractLsb' 0 23).toNat = 0 := by decide
  simp only [Ideal.ofBits, Ideal.ieee, h1, h2, h3]; norm_num <;> decide

theorem inf16 : Ideal.ofBits .bf16 0x7F80#16 = ⊤ := by
  have h1 : ((0x7F80#16 : BitVec 16).extractLsb' (8 + 7) 1 = 1#1) = False := by decide
  have h2 : ((0x7F80#16 : BitVec 16).extractLsb' 7 8).toNat = 255 := by decide
  have h3 : ((0x7F80#16 : BitVec 16).extractLsb' 0 7).toNat = 0 := by decide
  simp only [Ideal.ofBits, Ideal.ieee, h1, h2, h3]; norm_num <;> decide

theorem low32 : Ideal.ofBits .f32 0x00800000#32 = (((2 : ℝ) ^ (-126 : ℤ) : ℝ) : EReal) := by
  have h1 : ((0x00800000#32 : BitVec 32).extractLsb' (8 + 23) 1 = 1#1) = False := by decide
  have h2 : ((0x00800000#32 : BitVec 32).extractLsb' 23 8).toNat = 1 := by decide
  have h3 : ((0x00800000#32 : BitVec 32).extractLsb' 0 23).toNat = 0 := by decide
  simp only [Ideal.ofBits, Ideal.ieee, h1, h2, h3]; norm_num <;> decide

theorem high32 : Ideal.ofBits .f32 0x7E800000#32 = (((2 : ℝ) ^ (126 : ℤ) : ℝ) : EReal) := by
  have h1 : ((0x7E800000#32 : BitVec 32).extractLsb' (8 + 23) 1 = 1#1) = False := by decide
  have h2 : ((0x7E800000#32 : BitVec 32).extractLsb' 23 8).toNat = 253 := by decide
  have h3 : ((0x7E800000#32 : BitVec 32).extractLsb' 0 23).toNat = 0 := by decide
  simp only [Ideal.ofBits, Ideal.ieee, h1, h2, h3]; norm_num <;> decide

theorem bool_one {p : Prop} [Decidable p] (h : BitVec.ofBool (decide p) = 1#1) : p := by
  by_contra hp; rw [decide_eq_false hp] at h; exact absurd h (by decide)

/-- A magnitude below the infinity is of a real number. -/
theorem real_of_abs {x : EReal} (h : max x (-x) < ⊤) : Fin' x := by
  induction x using EReal.rec with
  | bot => simp at h
  | top => simp at h
  | coe r => exact ⟨r, rfl⟩

/-- A byte that is no NaN is the code of a real number. -/
theorem real_of_byte (w : BitVec 8) (h : ¬ ((w.extractLsb' 3 4).toNat = 15 ∧ (w.extractLsb' 0 3).toNat = 7)) : Fin' (Ideal.ofBits .fp8e4m3 w) := by
  show Fin' (Ideal.e4m3fn w)
  unfold Ideal.e4m3fn
  dsimp only
  rw [if_neg h]
  split
  · exact ⟨_, rfl⟩
  · exact ⟨_, rfl⟩

theorem byte_of_mask : ∀ w : BitVec 8, IntOp.cmpi .ne (IntOp.andi (w.setWidth 32) 127#32) 127#32 = 1#1 →
    ¬ ((w.extractLsb' 3 4).toNat = 15 ∧ (w.extractLsb' 0 3).toNat = 7) := by decide

variable [h : Cert.Pre_readable.Facts]
variable (x : FVec Ideal S2x128x7168 .bf16) (b : IVec S18432x7168 8) (s : FVec Ideal S18432 .f32) (A : FVec Ideal S64x7168 .bf16) (B : FVec Ideal S18432x64 .bf16) (g : FVec Ideal S18432 .f32)

/-- The weight codes are real. -/
theorem codes_real (hp : (fn x b s A B g).2.1 = fun _ => 1#1) (i : S18432x7168.Idx) : Fin' (Ideal.ofBits .fp8e4m3 (b i)) := by
  rw [fn_2] at hp
  exact real_of_byte _ (byte_of_mask _ (congrFun hp i))

/-- The weight scales are real. -/
theorem scales_real (hp : (fn x b s A B g).2.2.1 = fun _ => 1#1) (i : S18432.Idx) : Fin' (s i) := by
  rw [fn_3] at hp
  have h1 : max (s i) (-(s i)) < Ideal.ofBits .f32 0x7F800000#32 := bool_one (congrFun hp i)
  rw [inf32] at h1; exact real_of_abs h1

/-- The low-rank matrix of the activations' side is real. -/
theorem A_real (hp : (fn x b s A B g).2.2.2.1 = fun _ => 1#1) (i : S64x7168.Idx) : Fin' (A i) := by
  rw [fn_4] at hp
  have h1 : max (A i) (-(A i)) < Ideal.ofBits .bf16 0x7F80#16 := bool_one (congrFun hp i)
  rw [inf16] at h1; exact real_of_abs h1

/-- The low-rank matrix of the weight's side is real. -/
theorem B_real (hp : (fn x b s A B g).2.2.2.2 = fun _ => 1#1) (i : S18432x64.Idx) : Fin' (B i) := by
  rw [fn_5] at hp
  have h1 : max (B i) (-(B i)) < Ideal.ofBits .bf16 0x7F80#16 := bool_one (congrFun hp i)
  rw [inf16] at h1; exact real_of_abs h1

/-- A row's index along the last axis. -/
theorem lift_last (hr : S2x128x7168.Reduces [2] S2x128) (i : Fin 2) (j : Fin 128) (k : Fin 7168) : hr.lift (ix2 i j) k = ix3 i j k := by
  funext a
  match a with
  | ⟨0, _⟩ => rfl
  | ⟨1, _⟩ => rfl
  | ⟨2, _⟩ => rfl

theorem reduces_last : S2x128x7168.Reduces [2] S2x128 := by decide

/-- A row's largest magnitude. -/
theorem max_last (y : FVec Ideal S2x128x7168 .f32) (i : Fin 2) (j : Fin 128) :
    Host.reduce FloatOps.maximumf (Host.absf y) (constant S_ .f32 0xFF800000#32) h.reducesTo_S2x128x7168_S2x128_d2 h.h_S_ (ix2 i j)
      = rowMax fun k : Fin 7168 => y (ix3 i j k) := by
  rw [hostReduce_maximumf_eq_multiReduction (Host.absf y) 0xFF800000#32 h.reducesTo_S2x128x7168_S2x128_d2 h.h_S_ reduces_last (.inl rfl) rfl]
  refine (Ideal.multiReduction_maximumf_single (Host.absf y) 0xFF800000#32 reduces_last (.inl rfl) rfl (ix2 i j)).trans ?_
  exact Finset.fold_congr fun k _ => congrArg (fun z => max (y z) (-(y z))) (lift_last reduces_last i j k)

/-- A row's largest magnitude over 448. -/
theorem v4_at (i : Fin 2) (j : Fin 128) : v4 x (ix2 i j) = (rowMax fun k : Fin 7168 => x (ix3 i j k)) * c448 := by
  unfold v4
  rw [mulf_apply, max_last]
  rfl

/-- The activations' rows are readable. -/
theorem rows_readable (hp : (fn x b s A B g).1 = fun _ => 1#1) (i : Fin 2) (j : Fin 128) : Readable (rowMax fun k : Fin 7168 => x (ix3 i j k)) := by
  have h4 : v4 x (ix2 i j) = (rowMax fun k : Fin 7168 => x (ix3 i j k)) * c448 := v4_at x i j
  have h1 := (fn_1_at x b s A B g (ix2 i j)).symm.trans (congrFun hp (ix2 i j))
  unfold Readable
  rw [← h4]
  generalize v4 x (ix2 i j) = v at h1 ⊢
  change IntOp.ori (Ideal.cmp .oeq v (Ideal.ofBits .f32 0x00000000#32))
      (IntOp.andi (Ideal.cmp .oge v (Ideal.ofBits .f32 0x00800000#32)) (Ideal.cmp .olt v (Ideal.ofBits .f32 0x7E800000#32))) = 1#1 at h1
  rw [low32, high32, Ideal.ofBits_zero_f32] at h1
  have hor : ∀ p q r : BitVec 1, IntOp.ori p (IntOp.andi q r) = 1#1 → p = 1#1 ∨ (q = 1#1 ∧ r = 1#1) := by decide
  rcases hor _ _ _ h1 with h | ⟨h, h'⟩
  · exact Or.inl (bool_one h)
  · exact Or.inr ⟨bool_one h, bool_one h'⟩

end Cert.Pre_readable

end
-- ==== Proof.Quant.lean ====
/-
  The codes and the scales that the kernel leaves, over the extended reals: row by row, in the terms of the row quantiser.
-/
module

public import proofs.«01_k».proof.Proof.First
public import proofs.«01_k».proof.Proof.Ops

@[expose] public section

set_option maxRecDepth 16384

noncomputable section

namespace Cert.KernelIdeal.Hand

open Idealize.ShloMosaic hiding ix1 ix2
open Idealize.ShloMosaic.ValueIdx
open Cert.KernelIdeal Cert.KernelIdeal.Gen Cert.Dora

/-- The exponent words of 32 rows are the counted words of their largest magnitudes over 448. -/
theorem pay3_at (v : Vec Ideal S32x7168 .bf16) (i : Fin 32) (j : Fin 1) :
    k0_pay3 (F := Ideal) v (ix2 i j) = expWord (rowMax (fun k : Fin 7168 => v (ix2 i k)) * c448) := by
  have hmax : ∀ l : Fin 1, (shapeCast S32x1 (multiReduction .maximumf [1] S32 (absf (k0_pay2 (F := Ideal) v)) 0xFF800000#32 reduces_S32x7168_S32
      (.inl rfl) rfl) shapeCasts_S32_S32x1) (ix2 i l) = rowMax (fun k : Fin 7168 => v (ix2 i k)) := by
    intro l
    refine (cast_col _ _ i l).trans ((max_row _ _ _ _ i).trans ?_)
    unfold k0_pay2
    rw [shapeCast_self]; rfl
  have hcnt : k0_pay3 (F := Ideal) v (ix2 i j) = Scalar.select (IntOp.cmpi .eq
      ((BitVec.ofNat 32 (Finset.univ.filter fun k : Fin 256 => Ideal.ofBits .f32 (powWord k.val) ≤ rowMax (fun k : Fin 7168 => v (ix2 i k)) * c448).card) - 1#32) 0#32)
      0#32 ((BitVec.ofNat 32 (Finset.univ.filter fun k : Fin 256 => Ideal.ofBits .f32 (powWord k.val) ≤ rowMax (fun k : Fin 7168 => v (ix2 i k)) * c448).card) - 1#32 - 126#32) := by
    have key : (shapeCast S32x1 (multiReductionI .add [1] S32 (extui 32 (cmpf (F := Ideal) .ole
        (bitcastToFloat .f32 (shli (iota .tc S32x256 32 [1] iota_S32x256_d1_w32) (broadcast S32x256 23#32)))
        (broadcastTo S32x256 (mulf (shapeCast S32x1 (multiReduction .maximumf [1] S32 (absf (k0_pay2 (F := Ideal) v)) 0xFF800000#32
          reduces_S32x7168_S32 (.inl rfl) rfl) shapeCasts_S32_S32x1) (broadcast S32x1 (Scalar.ofBits .f32 0x3B124925#32)))
          broadcasts_S32x1_S32x256)) natLt_1_32) 0#32 reduces_S32x256_S32 rfl) shapeCasts_S32_S32x1) (ix2 i j)
        = BitVec.ofNat 32 (Finset.univ.filter fun k : Fin 256 => Ideal.ofBits .f32 (powWord k.val) ≤ rowMax (fun k : Fin 7168 => v (ix2 i k)) * c448).card := by
      refine (cast_col _ _ i j).trans ((count_row _ _ _ _ i).trans (congrArg (fun s => BitVec.ofNat 32 (Finset.card s)) (Finset.filter_congr fun k _ => ?_)))
      show BitVec.ofBool (decide (_ ≤ _)) = 1#1 ↔ _
      rw [spread_col (by decide), mulf_apply, hmax 0]
      have hw : (bitcastToFloat (F := Ideal) .f32 (shli (iota .tc S32x256 32 [1] iota_S32x256_d1_w32) (broadcast S32x256 23#32))) (ix2 i k)
          = Ideal.ofBits .f32 (powWord k.val) := by
        show Ideal.ofBits .f32 (IntOp.shli .vector (iota .tc S32x256 32 [1] iota_S32x256_d1_w32 (ix2 i k)) 23#32) = _
        rw [iota_single_apply]; rfl
      rw [hw]
      show BitVec.ofBool (decide (_ ≤ rowMax (fun k : Fin 7168 => v (ix2 i k)) * c448)) = 1#1 ↔ _
      by_cases hle : Ideal.ofBits .f32 (powWord k.val) ≤ rowMax (fun k : Fin 7168 => v (ix2 i k)) * c448 <;> simp [hle]
    rw [← key]; rfl
  rw [hcnt]
  unfold expWord
  generalize BitVec.ofNat 32 (Finset.univ.filter fun k : Fin 256 => Ideal.ofBits .f32 (powWord k.val) ≤ rowMax (fun k : Fin 7168 => v (ix2 i k)) * c448).card = b
  by_cases hb : b - 1#32 = 0#32
  · rw [if_pos hb, hb]; rfl
  · rw [if_neg hb]
    have : IntOp.cmpi .eq (b - 1#32) 0#32 = 0#1 := by
      show BitVec.ofBool (b - 1#32 == 0#32) = 0#1
      rw [beq_eq_false_iff_ne.mpr hb]; rfl
    rw [this]; rfl

/-- The scales of 32 rows. -/
theorem pay5_at (v : Vec Ideal S32x7168 .bf16) (i : Fin 32) (j : Fin 1) (h : Readable (rowMax fun k : Fin 7168 => v (ix2 i k))) :
    k0_pay5 (F := Ideal) (k0_pay3 v) (ix2 i j) = Ideal.exp2 (expReal (rowMax fun k : Fin 7168 => v (ix2 i k))) := by
  refine Eq.trans ?_ (scale_eq h)
  rw [← pay3_at v i j]; rfl

/-- The codes of 32 rows. -/
theorem pay4_at (v : Vec Ideal S32x7168 .bf16) (i : Fin 32) (j : Fin 7168) (h : Readable (rowMax fun k : Fin 7168 => v (ix2 i k))) :
    k0_pay4 (F := Ideal) v (ix2 i j) = min (Ideal.ofBits .f32 0x43E00000#32) (max (Ideal.ofBits .f32 0xC3E00000#32)
      (v (ix2 i j) * Ideal.exp2 (0 - expReal (rowMax fun k : Fin 7168 => v (ix2 i k))))) := by
  rw [← inv_eq h, ← pay3_at v i 0]
  refine Eq.trans (b := min (Ideal.ofBits .f32 0x43E00000#32) (max (Ideal.ofBits .f32 0xC3E00000#32) (k0_pay2 (F := Ideal) v (ix2 i j)
    * broadcastTo S32x7168 (bitcastToFloat (F := Ideal) .f32 (shli (addi (subi (broadcast S32x1 0#32) (k0_pay3 (F := Ideal) v)) (broadcast S32x1 127#32))
      (broadcast S32x1 23#32))) broadcasts_S32x1_S32x7168 (ix2 i j)))) rfl ?_
  rw [spread_col (by decide)]
  unfold k0_pay2
  rw [shapeCast_self]; rfl

/-- Rows `32 k + i` of the activations. -/
theorem rows_at (x : Vec Ideal S256x7168 .bf16) (k : ℕ) (h : k < 8) (i : Fin 32) (j : Fin 7168) :
    rows x k h (ix2 i j) = x (ix2 ⟨32 * k + i.val, by omega⟩ j) := by
  refine congrArg x (funext fun a => Fin.ext ?_)
  match a with
  | ⟨0, _⟩ => show 32 * k + 1 * i.val = 32 * k + i.val; omega
  | ⟨1, _⟩ => show 0 + 1 * j.val = j.val; omega

/-- The codes of all rows. -/
theorem codesOf_at (x : Vec Ideal S256x7168 .bf16) (hx : ∀ i : Fin 256, Readable (rowMax fun k : Fin 7168 => x (ix2 i k)))
    (i : Fin 256) (j : Fin 7168) : codesOf x (ix2 i j) = codeVal (fun k : Fin 7168 => x (ix2 i k)) j := by
  refine View.canon_apply_of_pieces (fun y : S256x7168.Idx => codeVal (fun k : Fin 7168 => x (ix2 (y 0) k)) (y 1)) (piecesC x 8) ?_ (ix2 i j)
    (coverC x 8 le_rfl (ix2 i j) (lt_of_lt_of_le i.isLt (by decide)))
  have key : ∀ n, ∀ p ∈ piecesC x n, ∀ y, p.2 y = (fun y : S256x7168.Idx => codeVal (fun k : Fin 7168 => x (ix2 (y 0) k)) (y 1)) (p.1.emb y) := by
    intro n
    induction n with
    | zero => intro p hp; exact absurd hp List.not_mem_nil
    | succ n ih =>
      intro p hp
      rw [piecesC.eq_2] at hp
      by_cases hn : n < 8
      · rw [dif_pos hn] at hp
        rcases List.mem_cons.mp hp with rfl | hp
        · intro y
          have he : (fun k : Fin 7168 => rows x n hn (ix2 (y 0) k)) = fun k : Fin 7168 => x (ix2 ⟨32 * n + (y 0).val, by have : (y 0).val < 32 := (y 0).isLt; omega⟩ k) :=
            funext fun k => rows_at x n hn (y 0) k
          have h1 : k0_pay4 (F := Ideal) (rows x n hn) (ix2 (y 0) (y 1)) = codeVal (fun k : Fin 7168 => rows x n hn (ix2 (y 0) k)) (y 1) :=
            pay4_at (rows x n hn) (y 0) (y 1) (by rw [he]; exact hx _)
          rw [he] at h1
          refine (congrArg (k0_pay4 (F := Ideal) (rows x n hn)) (ValueIdx.eq_ix2 y)).trans (h1.trans ?_)
          refine congrArg₂ (fun (a : Fin 256) (b : Fin 7168) => codeVal (fun k : Fin 7168 => x (ix2 a k)) b) (Fin.ext ?_) (Fin.ext ?_)
          · show 32 * n + (y 0).val = 32 * n + 1 * (y 0).val; omega
          · show (y 1).val = 0 + 1 * (y 1).val; omega
        · exact ih p hp
      · rw [dif_neg hn] at hp
        exact ih p hp
  exact key 8

/-- The scales of all rows. -/
theorem scalesOf_at (x : Vec Ideal S256x7168 .bf16) (hx : ∀ i : Fin 256, Readable (rowMax fun k : Fin 7168 => x (ix2 i k)))
    (i : Fin 256) (j : Fin 1) : scalesOf x (ix2 i j) = scaleVal (fun k : Fin 7168 => x (ix2 i k)) := by
  refine View.canon_apply_of_pieces (fun y : S256x1.Idx => scaleVal (fun k : Fin 7168 => x (ix2 (y 0) k))) (piecesS x 8) ?_ (ix2 i j)
    (coverS x 8 le_rfl (ix2 i j) (lt_of_lt_of_le i.isLt (by decide)))
  have key : ∀ n, ∀ p ∈ piecesS x n, ∀ y, p.2 y = (fun y : S256x1.Idx => scaleVal (fun k : Fin 7168 => x (ix2 (y 0) k))) (p.1.emb y) := by
    intro n
    induction n with
    | zero => intro p hp; exact absurd hp List.not_mem_nil
    | succ n ih =>
      intro p hp
      rw [piecesS.eq_2] at hp
      by_cases hn : n < 8
      · rw [dif_pos hn] at hp
        rcases List.mem_cons.mp hp with rfl | hp
        · intro y
          have he : (fun k : Fin 7168 => rows x n hn (ix2 (y 0) k)) = fun k : Fin 7168 => x (ix2 ⟨32 * n + (y 0).val, by have : (y 0).val < 32 := (y 0).isLt; omega⟩ k) :=
            funext fun k => rows_at x n hn (y 0) k
          have h1 : k0_pay5 (F := Ideal) (k0_pay3 (rows x n hn)) (ix2 (y 0) (y 1)) = scaleVal (fun k : Fin 7168 => rows x n hn (ix2 (y 0) k)) :=
            pay5_at (rows x n hn) (y 0) (y 1) (by rw [he]; exact hx _)
          rw [he] at h1
          refine (congrArg (k0_pay5 (F := Ideal) (k0_pay3 (rows x n hn))) (ValueIdx.eq_ix2 y)).trans (h1.trans ?_)
          refine congrArg (fun (a : Fin 256) => scaleVal (fun k : Fin 7168 => x (ix2 a k))) (Fin.ext ?_)
          show 32 * n + (y 0).val = 32 * n + 1 * (y 0).val; omega
        · exact ih p hp
      · rw [dif_neg hn] at hp
        exact ih p hp
  exact key 8

end Cert.KernelIdeal.Hand
-- ==== Proof.Ssq.lean ====
/-
  The sums of squares of the codes, row by row: 56 chunks of 128 columns added up, then the 128 columns of the sum.
-/
module

public import proofs.«01_k».proof.Proof.Quant
public import Idealize.ShloMosaic.Lib.Pipeline.Value

@[expose] public section

set_option maxRecDepth 16384

noncomputable section

namespace Cert.KernelIdeal.Hand

open Idealize.ShloMosaic hiding ix1 ix2
open Idealize.ShloMosaic.ValueIdx
open Cert.KernelIdeal Cert.KernelIdeal.Gen Cert.Dora

section Shape

variable {F : FTy → Type} [FloatOps F]

/-- The sixteen rows numbered `q` of the sums of squares. -/
def piece (w : Vec F S1024x7168 .fp8e4m3) (q : Fin 64) : FVec F S16x128 .f32 :=
  if q.val % 2 = 0 then (sums w ⟨q.val / 2, by omega⟩ 55).1 else (sums w ⟨q.val / 2, by omega⟩ 55).2

/-- The 64 groups of sixteen rows fill the 1024 rows. -/
theorem pieces_fill (w : Vec F S1024x7168 .fp8e4m3) :
    Shape.Concatenates ((List.ofFn fun q : Fin 64 => (⟨S16x128, piece w q⟩ : (s : Shape) × (s.Idx → F .f32))).map (·.1)) S1024x128 0 := by
  rw [List.map_ofFn]
  exact concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S1024x128_d0

/-- The norms, from the sums of squares as one array. -/
theorem normOf_form (x1 : Vec F S1024x7168 .fp8e4m3) (x2 : Vec F S1x1024 .f32) (x3 : Vec F S64x7168 .bf16) (x4 : Vec F S1024x64 .bf16)
    (xg : Vec F S3x64x64 .bf16) :
    normOf x1 x2 x3 x4 xg = sqrt (maximumf (addf (mulf (mulf (k0_pay15 x2) (k0_pay15 x2))
      (shapeCast S1x1024 (multiReduction .add [0] S1024 (transpose S128x1024 [1, 0]
        (concatenate S1024x128 0 (List.ofFn fun q : Fin 64 => (⟨S16x128, piece x1 q⟩ : (s : Shape) × (s.Idx → F .f32))) (pieces_fill x1) : FVec F S1024x128 .f32)
        transposes_S1024x128_p1_0_S128x1024) 0x00000000#32 reduces_S128x1024_S1024 (.inl rfl) rfl) shapeCasts_S1024_S1x1024))
      (k0_pay17 (k0_pay16 x1 x4 x2 x3
      (View.ld xg (Rect.unit (s := S3x64x64) ![0, 0, 0] S1x64x64.size inb_S3x64x64_S1x64x64_0_0_0))
      (View.ld xg (Rect.unit (s := S3x64x64) ![1, 0, 0] S1x64x64.size inb_S3x64x64_S1x64x64_1_0_0))
      (View.ld xg (Rect.unit (s := S3x64x64) ![2, 0, 0] S1x64x64.size inb_S3x64x64_S1x64x64_2_0_0)))))
      (broadcast S1x1024 (Scalar.ofBits .f32 0x00000000#32))) := rfl

/-- An entry of a piece of the weight block. -/
theorem chunk_at (w : Vec F S1024x7168 .fp8e4m3) (r : Fin 32) (j : Fin 56) (i : Fin 32) (l : Fin 128) :
    chunk w r j (ix2 i l) = w (ix2 ⟨32 * r.val + i.val, by omega⟩ ⟨128 * j.val + l.val, by omega⟩) := by
  unfold chunk
  refine congrArg w (funext fun a => Fin.ext ?_)
  match a with
  | ⟨0, _⟩ => show 32 * r.val + 1 * i.val = 32 * r.val + i.val; omega
  | ⟨1, _⟩ => show 128 * j.val + 1 * l.val = 128 * j.val + l.val; omega

/-- The upper sixteen rows. -/
theorem upper_at {α : Type} (x : S32x128.Idx → α) (i : Fin 16) (l : Fin 128) :
    extractStridedSlice S16x128 ![0, 0] x slices_S32x128_o0_0_S16x128 (ix2 i l) = x (ix2 ⟨i.val, by omega⟩ l) :=
  extractStridedSlice_apply _ _ _ _ _ fun a => by
    match a with
    | ⟨0, _⟩ => show i.val = 0 + i.val; omega
    | ⟨1, _⟩ => show l.val = 0 + l.val; omega

/-- The lower sixteen rows. -/
theorem lower_at {α : Type} (x : S32x128.Idx → α) (i : Fin 16) (l : Fin 128) :
    extractStridedSlice S16x128 ![16, 0] x slices_S32x128_o16_0_S16x128 (ix2 i l) = x (ix2 ⟨16 + i.val, by omega⟩ l) :=
  extractStridedSlice_apply _ _ _ _ _ fun a => by
    match a with
    | ⟨0, _⟩ => show 16 + i.val = 16 + i.val; rfl
    | ⟨1, _⟩ => show l.val = 0 + l.val; omega

end Shape

/-- Column `l` of row `R` of the weight block, squared (zero past the last column). -/
def sq (w : Vec Ideal S1024x7168 .fp8e4m3) (R : Fin 1024) (l : ℕ) : EReal :=
  if h : l < 7168 then w (ix2 R ⟨l, h⟩) * w (ix2 R ⟨l, h⟩) else 0

theorem sq_pos (w : Vec Ideal S1024x7168 .fp8e4m3) (R : Fin 1024) (l : ℕ) (h : l < 7168) :
    sq w R l = w (ix2 R ⟨l, h⟩) * w (ix2 R ⟨l, h⟩) := dif_pos h

theorem pay19_at (c : Vec Ideal S32x128 .fp8e4m3) (i : Fin 16) (l : Fin 128) :
    k0_pay19 (F := Ideal) c (ix2 i l) = (c (ix2 ⟨i.val, by omega⟩ l) * c (ix2 ⟨i.val, by omega⟩ l) : EReal) := by
  unfold k0_pay19 k0_pay18
  rw [mulf_apply, upper_at, shapeCast_self]; rfl

theorem pay20_at (c : Vec Ideal S32x128 .fp8e4m3) (i : Fin 16) (l : Fin 128) :
    k0_pay20 (F := Ideal) c (ix2 i l) = (c (ix2 ⟨16 + i.val, by omega⟩ l) * c (ix2 ⟨16 + i.val, by omega⟩ l) : EReal) := by
  unfold k0_pay20 k0_pay18
  rw [mulf_apply, lower_at, shapeCast_self]; rfl

theorem pay22_at (a : FVec Ideal S16x128 .f32) (c : Vec Ideal S32x128 .fp8e4m3) (i : Fin 16) (l : Fin 128) :
    k0_pay22 (F := Ideal) a c (ix2 i l) = a (ix2 i l) + (c (ix2 ⟨i.val, by omega⟩ l) * c (ix2 ⟨i.val, by omega⟩ l) : EReal) := by
  unfold k0_pay22 k0_pay21
  rw [addf_apply, mulf_apply, upper_at, shapeCast_self]; rfl

theorem pay23_at (a : FVec Ideal S16x128 .f32) (c : Vec Ideal S32x128 .fp8e4m3) (i : Fin 16) (l : Fin 128) :
    k0_pay23 (F := Ideal) a c (ix2 i l) = a (ix2 i l) + (c (ix2 ⟨16 + i.val, by omega⟩ l) * c (ix2 ⟨16 + i.val, by omega⟩ l) : EReal) := by
  unfold k0_pay23 k0_pay21
  rw [addf_apply, mulf_apply, lower_at, shapeCast_self]; rfl

/-- An entry of the sums of squares after `k + 1` chunks. -/
theorem sums_at (w : Vec Ideal S1024x7168 .fp8e4m3) (r : Fin 32) (k : ℕ) (hk : k < 56) (i : Fin 16) (l : Fin 128) :
    (sums w r k).1 (ix2 i l) = ∑ j ∈ Finset.range (k + 1), sq w ⟨32 * r.val + i.val, by omega⟩ (128 * j + l.val)
      ∧ (sums w r k).2 (ix2 i l) = ∑ j ∈ Finset.range (k + 1), sq w ⟨32 * r.val + (16 + i.val), by omega⟩ (128 * j + l.val) := by
  induction k with
  | zero =>
    rw [sums.eq_1, Finset.sum_range_one, Finset.sum_range_one]
    exact ⟨(pay19_at _ i l).trans (by rw [chunk_at, sq_pos _ _ _ (by omega)]; rfl), (pay20_at _ i l).trans (by rw [chunk_at, sq_pos _ _ _ (by omega)]; rfl)⟩
  | succ k ih =>
    obtain ⟨h1, h2⟩ := ih (by omega)
    rw [sums.eq_2, dif_pos hk, Finset.sum_range_succ, Finset.sum_range_succ _ (k + 1)]
    exact ⟨(pay22_at _ _ i l).trans (by rw [chunk_at, h1, sq_pos _ _ (128 * (k + 1) + l.val) (by omega)]), (pay23_at _ _ i l).trans (by rw [chunk_at, h2, sq_pos _ _ (128 * (k + 1) + l.val) (by omega)])⟩

/-- An entry of the 64 groups of sixteen rows. -/
theorem piece_at (w : Vec Ideal S1024x7168 .fp8e4m3) (q : Fin 64) (i : Fin 16) (l : Fin 128) :
    piece w q (ix2 i l) = ∑ j ∈ Finset.range 56, sq w ⟨16 * q.val + i.val, by omega⟩ (128 * j + l.val) := by
  unfold piece
  split
  · rename_i h
    rw [(sums_at w ⟨q.val / 2, by omega⟩ 55 (by omega) i l).1]
    refine Finset.sum_congr rfl fun j _ => congrArg (fun R => sq w R _) (Fin.ext ?_)
    show 32 * (q.val / 2) + i.val = 16 * q.val + i.val; omega
  · rename_i h
    rw [(sums_at w ⟨q.val / 2, by omega⟩ 55 (by omega) i l).2]
    refine Finset.sum_congr rfl fun j _ => congrArg (fun R => sq w R _) (Fin.ext ?_)
    show 32 * (q.val / 2) + (16 + i.val) = 16 * q.val + i.val; omega

/-- An entry of all of them. -/
theorem pieces_at (w : Vec Ideal S1024x7168 .fp8e4m3) (R : Fin 1024) (l : Fin 128) :
    (concatenate S1024x128 0 (List.ofFn fun q : Fin 64 => (⟨S16x128, piece w q⟩ : (s : Shape) × (s.Idx → Ideal .f32))) (pieces_fill w)) (ix2 R l)
      = ∑ j ∈ Finset.range 56, sq w R (128 * j + l.val) := by
  have hq : R.val / 16 < 64 := by omega
  refine (concatenate_ofFn_apply (t := S1024x128) (s₁ := S16x128) 0 (fun q : Fin 64 => piece w q) (pieces_fill w) rfl 16 rfl (ix2 R l) ⟨R.val / 16, hq⟩ rfl
    (ix2 ⟨R.val % 16, by omega⟩ l) rfl ?_).trans ?_
  · intro b hb
    match b with
    | ⟨0, _⟩ => exact absurd rfl hb
    | ⟨1, _⟩ => rfl
  · rw [piece_at]
    refine Finset.sum_congr rfl fun j _ => congrArg (fun R => sq w R _) (Fin.ext ?_)
    show 16 * (R.val / 16) + R.val % 16 = R.val; omega

/-- Chunks of 128 columns, column by column, are all the columns. -/
theorem columns {M : Type*} [AddCommMonoid M] (f : ℕ → M) :
    ∑ l : Fin 128, ∑ j ∈ Finset.range 56, f (128 * j + l.val) = ∑ l : Fin 7168, f l.val := by
  rw [Finset.sum_comm]
  have h : ∀ j ∈ Finset.range 56, ∑ l : Fin 128, f (128 * j + l.val) = ∑ l ∈ Finset.range 128, f (128 * j + l) :=
    fun j _ => Fin.sum_univ_eq_sum_range (fun l => f (128 * j + l)) 128
  rw [Finset.sum_congr rfl h, Fin.sum_univ_eq_sum_range f 7168]
  have key : ∀ n, ∑ j ∈ Finset.range n, ∑ l ∈ Finset.range 128, f (128 * j + l) = ∑ l ∈ Finset.range (128 * n), f l := by
    intro n
    induction n with
    | zero => simp
    | succ n ih => rw [Finset.sum_range_succ, ih, Nat.mul_succ, Finset.sum_range_add]
  exact key 56

/-- The sum of squares of a row of the weight block. -/
theorem ssq_at (w : Vec Ideal S1024x7168 .fp8e4m3) (i : Fin 1) (R : Fin 1024) :
    (shapeCast S1x1024 (multiReduction (F := Ideal) (φ := .f32) .add [0] S1024 (transpose S128x1024 [1, 0]
        (concatenate S1024x128 0 (List.ofFn fun q : Fin 64 => (⟨S16x128, piece w q⟩ : (s : Shape) × (s.Idx → Ideal .f32))) (pieces_fill w) : FVec Ideal S1024x128 .f32)
        transposes_S1024x128_p1_0_S128x1024) 0x00000000#32 reduces_S128x1024_S1024 (.inl rfl) rfl) shapeCasts_S1024_S1x1024) (ix2 i R)
      = ∑ l : Fin 7168, w (ix2 R l) * w (ix2 R l) := by
  rw [cast_row]
  refine (sum_col _ _ _ _ _ R).trans ?_
  have h : ∀ l : Fin 128, transpose S128x1024 [1, 0]
        (concatenate S1024x128 0 (List.ofFn fun q : Fin 64 => (⟨S16x128, piece w q⟩ : (s : Shape) × (s.Idx → Ideal .f32))) (pieces_fill w) : FVec Ideal S1024x128 .f32)
        transposes_S1024x128_p1_0_S128x1024 (ix2 l R) = ∑ j ∈ Finset.range 56, sq w R (128 * j + l.val) := fun l => by
    rw [transpose_at]; exact pieces_at w R l
  rw [Finset.sum_congr rfl fun l _ => h l, columns]
  exact Finset.sum_congr rfl fun l _ => sq_pos w R l.val l.isLt

end Cert.KernelIdeal.Hand

end
-- ==== Proof.Cross.lean ====
/-
  The low-rank part of the norms, and the low-rank image of the rows, over the extended reals, entry by entry.
-/
module

public import proofs.«01_k».proof.Proof.Quant
public import proofs.«01_k».proof.Proof.NormMath
public import Idealize.ShloMosaic.Lib.Pipeline.Value

@[expose] public section

set_option maxRecDepth 16384

noncomputable section

namespace Cert.KernelIdeal.Hand

open Idealize.ShloMosaic hiding ix1 ix2
open Idealize.ShloMosaic.ValueIdx
open Cert.KernelIdeal Cert.KernelIdeal.Gen Cert.Dora

theorem dots_g : dot_S64x7168_S64x7168_S64x64_1_1_0_0_n_n = DotDims.transposedRhs 64 7168 64 := rfl
theorem dots_aw : dot_S64x7168_S1024x7168_S64x1024_1_1_0_0_n_n = DotDims.transposedRhs 64 7168 1024 := rfl
theorem dots_gb : dot_S64x64_S1024x64_S64x1024_1_1_0_0_n_n = DotDims.transposedRhs 64 64 1024 := rfl
theorem dots_h : dot_S256x7168_S64x7168_S256x64_1_1_0_0_n_n = DotDims.transposedRhs 256 7168 64 := rfl
theorem dots_y : dot_S256x7168_S1024x7168_S256x1024_1_1_0_0_n_n = DotDims.transposedRhs 256 7168 1024 := rfl
theorem dots_d : dot_S256x64_S1024x64_S256x1024_1_1_0_0_n_n = DotDims.transposedRhs 256 64 1024 := rfl

/-- The table of the low-rank matrix with itself. -/
theorem pay7_at (a : Vec Ideal S64x7168 .bf16) (i j : Fin 64) : k0_pay7 (F := Ideal) a a (ix2 i j) = ∑ l : Fin 7168, a (ix2 i l) * a (ix2 j l) := by
  unfold k0_pay7
  exact dot_nt (φ := .bf16) (ψ := .bf16) _ dots_g a a i j

/-- Two of the slabs share no entry. -/
theorem slab_off (k k' : ℕ) (hne : k ≠ k') (inb : ∀ a, (![k, 0, 0] : Fin 3 → ℕ) a + S1x64x64.size a ≤ S3x64x64.size a)
    (inb' : ∀ a, (![k', 0, 0] : Fin 3 → ℕ) a + S1x64x64.size a ≤ S3x64x64.size a) (x : S1x64x64.Idx) :
    (Rect.unit (s := S3x64x64) ![k', 0, 0] S1x64x64.size inb').emb x ∉ (Rect.unit (s := S3x64x64) ![k, 0, 0] S1x64x64.size inb).set := by
  intro h
  have h0 := (Rect.mem_set_unit (inb := inb)).mp h 0
  have hx : (x 0).val < 1 := (x 0).isLt
  have hv : (((Rect.unit (s := S3x64x64) ![k', 0, 0] S1x64x64.size inb').emb x) 0).val = k' + 1 * (x 0).val := rfl
  rw [hv] at h0
  have h1 : k ≤ k' + 1 * (x 0).val ∧ k' + 1 * (x 0).val < k + 1 := h0
  omega

variable {F : FTy → Type} [FloatOps F]

/-- What was stored last, read where it was stored. -/
theorem ld_top {s : Shape} {e : EltTy} (r : Rect s) (w : r.shape.Idx → Elt F e) (L : List (View.Piece (Elt F) s e)) :
    View.ld (View.canon (⟨r, w⟩ :: L)) r = w := funext fun x => View.canon_cons_emb r w L x

/-- What was stored last does not show where it was not stored. -/
theorem ld_under {s : Shape} {e : EltTy} (r r' : Rect s) (w : r.shape.Idx → Elt F e) (L : List (View.Piece (Elt F) s e))
    (h : ∀ x, r'.emb x ∉ r.set) : View.ld (View.canon (⟨r, w⟩ :: L)) r' = View.ld (View.canon L) r' :=
  funext fun x => View.canon_cons_of_not_mem ⟨r, w⟩ L (h x)

/-- The three slabs of the table. -/
theorem slab2 (a : Vec F S64x7168 .bf16) :
    View.ld (gOf a) (Rect.unit (s := S3x64x64) ![2, 0, 0] S1x64x64.size inb_S3x64x64_S1x64x64_2_0_0) = k0_pay13 a a := by
  unfold gOf; rw [ld_top]

theorem slab1 (a : Vec F S64x7168 .bf16) :
    View.ld (gOf a) (Rect.unit (s := S3x64x64) ![1, 0, 0] S1x64x64.size inb_S3x64x64_S1x64x64_1_0_0) = k0_pay12 a a := by
  unfold gOf; rw [ld_under _ _ _ _ (slab_off 2 1 (by decide) _ _), ld_top]

theorem slab0 (a : Vec F S64x7168 .bf16) :
    View.ld (gOf a) (Rect.unit (s := S3x64x64) ![0, 0, 0] S1x64x64.size inb_S3x64x64_S1x64x64_0_0_0) = k0_pay11 a a := by
  unfold gOf; rw [ld_under _ _ _ _ (slab_off 2 0 (by decide) _ _), ld_under _ _ _ _ (slab_off 1 0 (by decide) _ _), ld_top]

/-- The slabs as square tables. -/
theorem square0 (a : Vec F S64x7168 .bf16) : shapeCast S64x64 (k0_pay11 a a) shapeCasts_S1x64x64_S64x64 = k0_pay8 a a := by
  unfold k0_pay11; exact shapeCast_shapeCast _ _ _

theorem square1 (a : Vec F S64x7168 .bf16) : shapeCast S64x64 (k0_pay12 a a) shapeCasts_S1x64x64_S64x64 = k0_pay10 a a := by
  unfold k0_pay12; exact shapeCast_shapeCast _ _ _

theorem square2 (a : Vec F S64x7168 .bf16) : shapeCast S64x64 (k0_pay13 a a) shapeCasts_S1x64x64_S64x64
    = truncf .bf16 (subf (k0_pay9 a a) (extf .f32 (k0_pay10 a a) bitsLt_bf16_f32)) bitsLt_bf16_f32 := by
  unfold k0_pay13; exact shapeCast_shapeCast _ _ _

/-- The first table is the product; the two others vanish when it is real. -/
theorem table0_at (a : Vec Ideal S64x7168 .bf16) (i j : Fin 64) :
    k0_pay8 (F := Ideal) a a (ix2 i j) = ∑ l : Fin 7168, a (ix2 i l) * a (ix2 j l) := pay7_at a i j

theorem real_sub {x : EReal} (h : Fin' x) : x - x = 0 := by
  obtain ⟨r, rfl⟩ := h
  rw [← EReal.coe_sub, sub_self, EReal.coe_zero]

theorem table_real (a : Vec Ideal S64x7168 .bf16) (ha : ∀ r l, Fin' (a (ix2 r l))) (i j : Fin 64) : Fin' (k0_pay7 (F := Ideal) a a (ix2 i j)) := by
  rw [pay7_at]
  choose f hf using ha
  refine ⟨∑ l, f i l * f j l, ?_⟩
  rw [coe_sum]
  exact Finset.sum_congr rfl fun l _ => by rw [hf, hf, EReal.coe_mul]

theorem table1_at (a : Vec Ideal S64x7168 .bf16) (ha : ∀ r l, Fin' (a (ix2 r l))) (i j : Fin 64) : k0_pay9 (F := Ideal) a a (ix2 i j) = (0 : EReal) :=
  real_sub (table_real a ha i j)

theorem table2_at (a : Vec Ideal S64x7168 .bf16) (ha : ∀ r l, Fin' (a (ix2 r l))) (i j : Fin 64) :
    (truncf .bf16 (subf (k0_pay9 (F := Ideal) a a) (extf .f32 (k0_pay10 (F := Ideal) a a) bitsLt_bf16_f32)) bitsLt_bf16_f32 : FVec Ideal S64x64 .bf16) (ix2 i j) = (0 : EReal) :=
  real_sub (x := k0_pay9 (F := Ideal) a a (ix2 i j)) ⟨0, table1_at a ha i j⟩

/-- The low-rank part of a row's squared norm, from the tables. -/
theorem pay16_at (w : Vec Ideal S1024x7168 .fp8e4m3) (b : Vec Ideal S1024x64 .bf16) (s : Vec Ideal S1x1024 .f32) (a : Vec Ideal S64x7168 .bf16)
    (g0 g1 g2 : Vec Ideal S1x64x64 .bf16) (j : Fin 1024) :
    k0_pay16 (F := Ideal) w b s a g0 g1 g2 (ix1 j) = ∑ r : Fin 64, b (ix2 j r) * ((1 : EReal) * (s (ix2 0 j) * ∑ l : Fin 7168, a (ix2 r l) * w (ix2 j l))
      + quarter * (((∑ t : Fin 64, shapeCast S64x64 g0 shapeCasts_S1x64x64_S64x64 (ix2 r t) * b (ix2 j t))
        + ∑ t : Fin 64, shapeCast S64x64 g1 shapeCasts_S1x64x64_S64x64 (ix2 r t) * b (ix2 j t))
        + ∑ t : Fin 64, shapeCast S64x64 g2 shapeCasts_S1x64x64_S64x64 (ix2 r t) * b (ix2 j t))) := by
  unfold k0_pay16
  refine (sum_col _ _ _ _ _ j).trans (Finset.sum_congr rfl fun r _ => ?_)
  rw [mulf_apply, addf_apply, mulf_apply, mulf_apply, mulf_apply, addf_apply, addf_apply, transpose_at, spread_row (by decide),
    dot_nt _ dots_aw, dot_nt _ dots_gb, dot_nt _ dots_gb, dot_nt _ dots_gb]
  unfold k0_pay14 k0_pay15
  rw [shapeCast_self, shapeCast_self, broadcast_apply, broadcast_apply]
  have h1 : (FloatOps.ofBits .f32 0x3F800000#32 : Ideal .f32) = (1 : EReal) := Ideal.ofBits_one_f32
  have h4 : (FloatOps.ofBits .f32 0x3E800000#32 : Ideal .f32) = quarter := rfl
  have hx : extf (F := Ideal) (φ := .bf16) .f32 b bitsLt_bf16_f32 (ix2 j r) = b (ix2 j r) := rfl
  rw [h1, h4, hx]

/-- The low-rank image of the rows. -/
theorem hOf_at (x : Vec Ideal S256x7168 .bf16) (a : Vec Ideal S64x7168 .bf16) (i : Fin 256) (r : Fin 64) :
    hOf x a (ix2 i r) = ∑ l : Fin 7168, x (ix2 i l) * a (ix2 r l) := by
  unfold hOf k0_pay6
  rw [shapeCast_self, shapeCast_self]
  exact dot_nt (φ := .bf16) (ψ := .bf16) _ dots_h x a i r

end Cert.KernelIdeal.Hand

end
-- ==== Proof.Norm.lean ====
/-
  The norms of a block's rows, entry by entry: of real codes, scales and low-rank factors, they are the norms of the merged
  rows. And the output block, entry by entry.
-/
module

public import proofs.«01_k».proof.Proof.Ssq
public import proofs.«01_k».proof.Proof.Cross

@[expose] public section

set_option maxRecDepth 16384

noncomputable section

namespace Cert.KernelIdeal.Hand

open Idealize.ShloMosaic hiding ix1 ix2
open Idealize.ShloMosaic.ValueIdx
open Cert.KernelIdeal Cert.KernelIdeal.Gen Cert.Dora

/-- The root of the larger of two arrays. -/
theorem sqrt_max_at {s : Shape} (x y : FVec Ideal s .f32) (i : s.Idx) : sqrt (maximumf x y) i = Ideal.sqrt (max (x i) (y i)) := rfl

/-- The norms of a block's rows. -/
theorem normOf_at (x1 : Vec Ideal S1024x7168 .fp8e4m3) (x2 : Vec Ideal S1x1024 .f32) (a : Vec Ideal S64x7168 .bf16) (b : Vec Ideal S1024x64 .bf16)
    (hw : ∀ R l, Fin' (x1 (ix2 R l))) (hs : ∀ R, Fin' (x2 (ix2 0 R))) (ha : ∀ r l, Fin' (a (ix2 r l))) (hb : ∀ R r, Fin' (b (ix2 R r)))
    (R : Fin 1024) :
    normOf x1 x2 a b (gOf a) (ix2 0 R)
      = normVal (fun l => x1 (ix2 R l)) (x2 (ix2 0 R)) (fun r l => a (ix2 r l)) (fun r => b (ix2 R r)) := by
  rw [normOf_form, sqrt_max_at, addf_apply, mulf_apply, mulf_apply, ssq_at, slab0, slab1, slab2]
  unfold k0_pay17
  rw [cast_row, pay16_at, square0, square1, square2, broadcast_apply]
  have h15 : k0_pay15 (F := Ideal) x2 (ix2 0 R) = x2 (ix2 0 R) := by unfold k0_pay15; rw [shapeCast_self]
  have h0 : (Scalar.ofBits (F := Ideal) .f32 0x00000000#32) = (0 : EReal) := Ideal.ofBits_zero_f32
  rw [h15, h0]
  simp only [table0_at, table2_at a ha]
  have h1 : ∀ r t, k0_pay10 (F := Ideal) a a (ix2 r t) = (0 : EReal) := fun r t => table1_at a ha r t
  simp only [h1]
  exact expand (fun l => x1 (ix2 R l)) (x2 (ix2 0 R)) (fun r l => a (ix2 r l)) (fun r => b (ix2 R r)) (hw R) (hs R) ha (hb R)

/-- The output block. -/
theorem outOf_at (x1 : Vec Ideal S1024x7168 .fp8e4m3) (x2 : Vec Ideal S1x1024 .f32) (x4 : Vec Ideal S1024x64 .bf16) (x5 : Vec Ideal S1x1024 .f32)
    (n : FVec Ideal S1x1024 .f32) (xc : Vec Ideal S256x7168 .fp8e4m3) (xs : Vec Ideal S256x1 .f32) (xh : Vec Ideal S256x64 .bf16)
    (i : Fin 256) (j : Fin 1024) :
    outOf x1 x2 x4 x5 n xc xs xh (ix2 i j)
      = outVal (fun l => xc (ix2 i l)) (fun l => x1 (ix2 j l)) (xs (ix2 i 0)) (x2 (ix2 0 j)) (fun r => xh (ix2 i r)) (fun r => x4 (ix2 j r))
        (x5 (ix2 0 j)) (n (ix2 0 j)) := by
  unfold outOf k0_pay1
  rw [ValueIdx.truncf_apply, mulf_apply, addf_apply, mulf_apply, mulf_apply, mulf_apply, spread_row (by decide), spread_row (by decide), spread_col (by decide),
    dot_nt _ dots_y, dot_nt _ dots_d, ValueIdx.divf_apply, select_apply, cmpf_apply, broadcast_apply, broadcast_apply, broadcast_apply]
  unfold k0_pay14 k0_pay15 k0_pay214
  simp only [shapeCast_self]
  rfl

end Cert.KernelIdeal.Hand

end
-- ==== Proof.Arr.lean ====
/-
  The result arrays of the kernel's run, entry by entry, from the arrays its grid reads: the output and the norms, block of
  1024 columns after block; the codes and the scales, written once.
-/
module

public import proofs.«01_k».proof.Proof.Pipe
public import proofs.«01_k».proof.Proof.Norm

@[expose] public section

set_option maxRecDepth 16384

noncomputable section

namespace Cert.KernelIdeal.Hand

open Idealize.ShloMosaic hiding ix1 ix2
open Idealize.ShloMosaic.TcCoe
open Idealize.ShloMosaic.ValueIdx
open Idealize.ShloMosaic.Pipeline (Dat)
open Cert.KernelIdeal Cert.KernelIdeal.Gen Cert.Dora

section Generic

variable {F : FTy → Type} [FloatOps F]
variable (m : (ℓ : Loc nD τ sig) → Buf (Elt F) ℓ) (ρ : Dev nD → PrngReg)

theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = 0 ∧ win0_2.index t 1 = t.val :=
  (by decide +kernel : ∀ t : Fin grid0.N, win0_2.index t 0 = 0 ∧ win0_2.index t 1 = t.val)
theorem index0_4 : ∀ t : Fin cfg0.N, win0_4.index t 0 = t.val ∧ win0_4.index t 1 = 0 :=
  (by decide +kernel : ∀ t : Fin grid0.N, win0_4.index t 0 = t.val ∧ win0_4.index t 1 = 0)
theorem index0_5 : ∀ t : Fin cfg0.N, win0_5.index t 0 = 0 ∧ win0_5.index t 1 = t.val :=
  (by decide +kernel : ∀ t : Fin grid0.N, win0_5.index t 0 = 0 ∧ win0_5.index t 1 = t.val)
theorem index0_6 : ∀ t : Fin cfg0.N, win0_6.index t 0 = 0 ∧ win0_6.index t 1 = t.val :=
  (by decide +kernel : ∀ t : Fin grid0.N, win0_6.index t 0 = 0 ∧ win0_6.index t 1 = t.val)
theorem index0_7 : ∀ t : Fin cfg0.N, win0_7.index t 0 = 0 ∧ win0_7.index t 1 = t.val :=
  (by decide +kernel : ∀ t : Fin grid0.N, win0_7.index t 0 = 0 ∧ win0_7.index t 1 = t.val)

theorem lt_18 (t : Fin cfg0.N) : t.val < 18 := lt_of_lt_of_eq t.isLt (show cfg0.N = 18 from N_0)

/-- An entry of the weight block of point `t`. -/
theorem iblk1_at (c : Dev nD) (t : Fin cfg0.N) (i : Fin 1024) (l : Fin 7168) :
    (iblk m c 1 t : Vec F S1024x7168 .fp8e4m3) (ix2 i l) = (V m c main_v0 : Vec F S18432x7168 .fp8e4m3) (ix2 ⟨1024 * t.val + i.val, by have := lt_18 t; omega⟩ l) := by
  unfold iblk
  rw [View.read_apply]
  show V m c main_v0 _ = V m c main_v0 _
  refine congrArg (V m c main_v0) (funext fun a => Fin.ext ?_)
  match a with
  | ⟨0, _⟩ => show win0_1.index t 0 * 1024 + 1 * i.val = 1024 * t.val + i.val; rw [(index0_1 t).1]; omega
  | ⟨1, _⟩ => show win0_1.index t 1 * 7168 + 1 * l.val = l.val; rw [(index0_1 t).2]; omega

/-- An entry of the weight scales of point `t`. -/
theorem iblk2_at (c : Dev nD) (t : Fin cfg0.N) (i : Fin 1024) :
    (iblk m c 2 t : Vec F S1x1024 .f32) (ix2 0 i) = (V m c main_v2 : Vec F S1x18432 .f32) (ix2 0 ⟨1024 * t.val + i.val, by have := lt_18 t; omega⟩) := by
  unfold iblk
  rw [View.read_apply]
  show V m c main_v2 _ = V m c main_v2 _
  refine congrArg (V m c main_v2) (funext fun a => Fin.ext ?_)
  match a with
  | ⟨0, _⟩ => show win0_2.index t 0 * 1 + 1 * 0 = 0; rw [(index0_2 t).1]
  | ⟨1, _⟩ => show win0_2.index t 1 * 1024 + 1 * i.val = 1024 * t.val + i.val; rw [(index0_2 t).2]; omega

/-- An entry of the low-rank rows of point `t`. -/
theorem iblk4_at (c : Dev nD) (t : Fin cfg0.N) (i : Fin 1024) (r : Fin 64) :
    (iblk m c 4 t : Vec F S1024x64 .bf16) (ix2 i r) = (V m c main_arg4 : Vec F S18432x64 .bf16) (ix2 ⟨1024 * t.val + i.val, by have := lt_18 t; omega⟩ r) := by
  unfold iblk
  rw [View.read_apply]
  show V m c main_arg4 _ = V m c main_arg4 _
  refine congrArg (V m c main_arg4) (funext fun a => Fin.ext ?_)
  match a with
  | ⟨0, _⟩ => show win0_4.index t 0 * 1024 + 1 * i.val = 1024 * t.val + i.val; rw [(index0_4 t).1]; omega
  | ⟨1, _⟩ => show win0_4.index t 1 * 64 + 1 * r.val = r.val; rw [(index0_4 t).2]; omega

/-- An entry of the magnitudes of point `t`. -/
theorem iblk5_at (c : Dev nD) (t : Fin cfg0.N) (i : Fin 1024) :
    (iblk m c 5 t : Vec F S1x1024 .f32) (ix2 0 i) = (V m c main_v3 : Vec F S1x18432 .f32) (ix2 0 ⟨1024 * t.val + i.val, by have := lt_18 t; omega⟩) := by
  unfold iblk
  rw [View.read_apply]
  show V m c main_v3 _ = V m c main_v3 _
  refine congrArg (V m c main_v3) (funext fun a => Fin.ext ?_)
  match a with
  | ⟨0, _⟩ => show win0_5.index t 0 * 1 + 1 * 0 = 0; rw [(index0_5 t).1]
  | ⟨1, _⟩ => show win0_5.index t 1 * 1024 + 1 * i.val = 1024 * t.val + i.val; rw [(index0_5 t).2]; omega

/-- What an array of the output's shape reads through the output's block of point `t`. -/
theorem read_blk6 (t : Fin cfg0.N) (G : Vec F S256x18432 .bf16) (i : Fin 256) (j : Fin 1024) :
    (((cfg0.win 6).blk t).view.read (Elt F) G : Vec F S256x1024 .bf16) (ix2 i j) = G (ix2 i ⟨1024 * t.val + j.val, by have := lt_18 t; omega⟩) := by
  rw [View.read_apply]
  refine congrArg G (funext fun a => Fin.ext ?_)
  match a with
  | ⟨0, _⟩ => show win0_6.index t 0 * 256 + 1 * i.val = i.val; rw [(index0_6 t).1]; omega
  | ⟨1, _⟩ => show win0_6.index t 1 * 1024 + 1 * j.val = 1024 * t.val + j.val; rw [(index0_6 t).2]; omega

/-- The same of the norms. -/
theorem read_blk7 (t : Fin cfg0.N) (G : Vec F S1x18432 .f32) (i : Fin 1) (j : Fin 1024) :
    (((cfg0.win 7).blk t).view.read (Elt F) G : Vec F S1x1024 .f32) (ix2 i j) = G (ix2 i ⟨1024 * t.val + j.val, by have := lt_18 t; omega⟩) := by
  rw [View.read_apply]
  refine congrArg G (funext fun a => Fin.ext ?_)
  match a with
  | ⟨0, _⟩ => show win0_7.index t 0 * 1 + 1 * i.val = i.val; rw [(index0_7 t).1]; omega
  | ⟨1, _⟩ => show win0_7.index t 1 * 1024 + 1 * j.val = 1024 * t.val + j.val; rw [(index0_7 t).2]; omega

/-- The output's array ends as `G` when each point's block is `G` at its columns. -/
theorem final6 (c : Dev nD) (G : Vec F S256x18432 .bf16)
    (hG : ∀ (t : Fin cfg0.N) (i : Fin 256) (j : Fin 1024), outAt m c t (ix2 i j) = G (ix2 i ⟨1024 * t.val + j.val, by have := lt_18 t; omega⟩)) :
    (dats m 0 c).arrAt 6 cfg0.N = G := by
  refine (dats m 0 c).arrAt_eq_of_cover 6 G (fun t _ => ?_) fun i => ?_
  · show (cfg0.win 6).cut (grid0.coords t) ((dats m 0 c).after 6 t) = _
    rw [after0_6]
    have h : ∀ y : S256x1024.Idx, outAt m c t y = (((cfg0.win 6).blk t).view.read (Elt F) G : Vec F S256x1024 .bf16) y := fun y => by
      obtain ⟨i, j, rfl⟩ : ∃ i j, y = ix2 i j := ⟨y 0, y 1, ValueIdx.eq_ix2 y⟩
      exact (hG t i j).trans (read_blk6 t G i j).symm
    exact funext h
  · have h0 : (i 0 : Nat) < 256 := (i 0).isLt
    have h1 : (i 1 : Nat) < 18432 := (i 1).isLt
    have ht : (i 1 : Nat) / 1024 < cfg0.N := by rw [show cfg0.N = 18 from N_0]; omega
    refine ⟨⟨(i 1 : Nat) / 1024, ht⟩, flush0_6 _, ?_⟩
    show i ∈ ((View.whole main_v4_0).slice (win0_6.rect ⟨(i 1 : Nat) / 1024, ht⟩)).set
    rw [View.set_slice_whole, Rect.mem_set_unit]
    intro a
    match a with
    | ⟨0, _⟩ => show win0_6.index _ 0 * 256 ≤ (i 0 : Nat) ∧ (i 0 : Nat) < win0_6.index _ 0 * 256 + 256
                rw [(index0_6 _).1]; omega
    | ⟨1, _⟩ => show win0_6.index _ 1 * 1024 ≤ (i 1 : Nat) ∧ (i 1 : Nat) < win0_6.index _ 1 * 1024 + 1024
                rw [(index0_6 _).2]; dsimp only; omega

/-- The norms' array ends as `G` when each point's block is `G` at its columns. -/
theorem final7 (c : Dev nD) (G : Vec F S1x18432 .f32)
    (hG : ∀ (t : Fin cfg0.N) (i : Fin 1) (j : Fin 1024), normAt m c t (ix2 i j) = G (ix2 i ⟨1024 * t.val + j.val, by have := lt_18 t; omega⟩)) :
    (dats m 0 c).arrAt 7 cfg0.N = G := by
  refine (dats m 0 c).arrAt_eq_of_cover 7 G (fun t _ => ?_) fun i => ?_
  · show (cfg0.win 7).cut (grid0.coords t) ((dats m 0 c).after 7 t) = _
    rw [after0_7]
    have h : ∀ y : S1x1024.Idx, normAt m c t y = (((cfg0.win 7).blk t).view.read (Elt F) G : Vec F S1x1024 .f32) y := fun y => by
      obtain ⟨i, j, rfl⟩ : ∃ i j, y = ix2 i j := ⟨y 0, y 1, ValueIdx.eq_ix2 y⟩
      exact (hG t i j).trans (read_blk7 t G i j).symm
    exact funext h
  · have h0 : (i 0 : Nat) < 1 := (i 0).isLt
    have h1 : (i 1 : Nat) < 18432 := (i 1).isLt
    have ht : (i 1 : Nat) / 1024 < cfg0.N := by rw [show cfg0.N = 18 from N_0]; omega
    refine ⟨⟨(i 1 : Nat) / 1024, ht⟩, flush0_7 _, ?_⟩
    show i ∈ ((View.whole main_v4_1).slice (win0_7.rect ⟨(i 1 : Nat) / 1024, ht⟩)).set
    rw [View.set_slice_whole, Rect.mem_set_unit]
    intro a
    match a with
    | ⟨0, _⟩ => show win0_7.index _ 0 * 1 ≤ (i 0 : Nat) ∧ (i 0 : Nat) < win0_7.index _ 0 * 1 + 1
                rw [(index0_7 _).1]; omega
    | ⟨1, _⟩ => show win0_7.index _ 1 * 1024 ≤ (i 1 : Nat) ∧ (i 1 : Nat) < win0_7.index _ 1 * 1024 + 1024
                rw [(index0_7 _).2]; dsimp only; omega

/-- The last point of the grid. -/
def tLast : Fin cfg0.N := ⟨17, by rw [show cfg0.N = 18 from N_0]; decide⟩

theorem last_of (t : Fin cfg0.N) (h : t.val % 18 = 17) : t = tLast := Fin.ext (by have := lt_18 t; show t.val = 17; omega)

/-- The codes' array ends as the codes. -/
theorem final8 (c : Dev nD) : (dats m 0 c).arrAt 8 cfg0.N = codesOf (xAll m c) := by
  have hz : (fun a => win0_8.index tLast a * main_v4_2.ty.shape.size a) = fun _ => 0 := funext fun a => by fin_cases a <;> decide +kernel
  refine (dats m 0 c).arrAt_eq_of_cover 8 (codesOf (xAll m c)) (fun t hf => ?_) fun i => ⟨tLast, (flush0_8 tLast).mpr rfl, ?_⟩
  · obtain rfl := last_of t ((flush0_8 t).mp hf)
    show (cfg0.win 8).cut (grid0.coords tLast) ((dats m 0 c).after 8 tLast) = _
    rw [after0_8]
    exact (Memref.read_access_unit_zero (Elt F) main_v4_2 hz (fun a => by rw [congrFun hz a]; simp) (codesOf (xAll m c))).symm
  · show i ∈ ((View.whole main_v4_2).slice (win0_8.rect tLast)).set
    rw [View.set_slice_whole, Rect.mem_set_unit]
    intro a
    have h0 : (i 0 : Nat) < 256 := (i 0).isLt
    have h1 : (i 1 : Nat) < 7168 := (i 1).isLt
    match a with
    | ⟨0, _⟩ => show win0_8.index tLast 0 * 256 ≤ (i 0 : Nat) ∧ (i 0 : Nat) < win0_8.index tLast 0 * 256 + 256
                rw [show win0_8.index tLast 0 = 0 from by decide +kernel]; omega
    | ⟨1, _⟩ => show win0_8.index tLast 1 * 7168 ≤ (i 1 : Nat) ∧ (i 1 : Nat) < win0_8.index tLast 1 * 7168 + 7168
                rw [show win0_8.index tLast 1 = 0 from by decide +kernel]; omega

/-- The scales' array ends as the scales. -/
theorem final9 (c : Dev nD) : (dats m 0 c).arrAt 9 cfg0.N = scalesOf (xAll m c) := by
  have hz : (fun a => win0_9.index tLast a * main_v4_3.ty.shape.size a) = fun _ => 0 := funext fun a => by fin_cases a <;> decide +kernel
  refine (dats m 0 c).arrAt_eq_of_cover 9 (scalesOf (xAll m c)) (fun t hf => ?_) fun i => ⟨tLast, (flush0_9 tLast).mpr rfl, ?_⟩
  · obtain rfl := last_of t ((flush0_9 t).mp hf)
    show (cfg0.win 9).cut (grid0.coords tLast) ((dats m 0 c).after 9 tLast) = _
    rw [after0_9]
    exact (Memref.read_access_unit_zero (Elt F) main_v4_3 hz (fun a => by rw [congrFun hz a]; simp) (scalesOf (xAll m c))).symm
  · show i ∈ ((View.whole main_v4_3).slice (win0_9.rect tLast)).set
    rw [View.set_slice_whole, Rect.mem_set_unit]
    intro a
    have h0 : (i 0 : Nat) < 256 := (i 0).isLt
    have h1 : (i 1 : Nat) < 1 := (i 1).isLt
    match a with
    | ⟨0, _⟩ => show win0_9.index tLast 0 * 256 ≤ (i 0 : Nat) ∧ (i 0 : Nat) < win0_9.index tLast 0 * 256 + 256
                rw [show win0_9.index tLast 0 = 0 from by decide +kernel]; omega
    | ⟨1, _⟩ => show win0_9.index tLast 1 * 1 ≤ (i 1 : Nat) ∧ (i 1 : Nat) < win0_9.index tLast 1 * 1 + 1
                rw [show win0_9.index tLast 1 = 0 from by decide +kernel]; omega

/-- What the grid reads, from the arguments. -/
theorem V_v0 (c : Dev nD) : (V m c main_v0 : Vec F S18432x7168 .fp8e4m3) = bitcastToFloat .fp8e4m3 (m ((c : Thread nD τ).loc main_arg1)) := rfl
theorem V_v1 (c : Dev nD) : (V m c main_v1 : Vec F S256x7168 .bf16) = shapeCast S256x7168 (m ((c : Thread nD τ).loc main_arg0)) shapeCasts_S2x128x7168_S256x7168 := rfl
theorem V_v2 (c : Dev nD) : (V m c main_v2 : Vec F S1x18432 .f32) = shapeCast S1x18432 (m ((c : Thread nD τ).loc main_arg2)) shapeCasts_S18432_S1x18432 := rfl
theorem V_v3 (c : Dev nD) : (V m c main_v3 : Vec F S1x18432 .f32) = shapeCast S1x18432 (m ((c : Thread nD τ).loc main_arg5)) shapeCasts_S18432_S1x18432 := rfl

end Generic

end Cert.KernelIdeal.Hand

end
-- ==== Proof.Results.lean ====
/-
  The results as arrays, from plain tables of the arguments.
-/
module

public import proofs.«01_k».proof.Proof.Spec

@[expose] public section

noncomputable section

namespace Cert.Dora

open Idealize.ShloMosaic

/-- The norms of the merged weight's rows. -/
def normArr (w : Fin 18432 → Fin 7168 → EReal) (s : Fin 18432 → EReal) (A : Fin 64 → Fin 7168 → EReal) (b : Fin 18432 → Fin 64 → EReal) :
    (⟨2, ![1, 18432]⟩ : Shape).Idx → EReal :=
  fun y => normVal (w (y 1)) (s (y 1)) A (b (y 1))

/-- The output. -/
def outArr (x : Fin 256 → Fin 7168 → EReal) (w : Fin 18432 → Fin 7168 → EReal) (s : Fin 18432 → EReal) (A : Fin 64 → Fin 7168 → EReal)
    (b : Fin 18432 → Fin 64 → EReal) (g : Fin 18432 → EReal) : (⟨2, ![256, 18432]⟩ : Shape).Idx → EReal :=
  fun y => outVal (fun l => codeVal (x (y 0)) l) (w (y 1)) (scaleVal (x (y 0))) (s (y 1)) (fun r => ∑ l : Fin 7168, x (y 0) l * A r l) (b (y 1)) (g (y 1))
    (normVal (w (y 1)) (s (y 1)) A (b (y 1)))

/-- The codes of the activations. -/
def codeArr (x : Fin 256 → Fin 7168 → EReal) : (⟨2, ![256, 7168]⟩ : Shape).Idx → EReal := fun y => codeVal (x (y 0)) (y 1)

/-- The scales of the activations. -/
def scaleArr (x : Fin 256 → Fin 7168 → EReal) : (⟨2, ![256, 1]⟩ : Shape).Idx → EReal := fun y => scaleVal (x (y 0))

end Cert.Dora

end
-- ==== Proof.Ker.lean ====
/-
  What the kernel's run ends with: the four results as the plain tables say.
-/
module

public import proofs.«01_k».proof.Proof.Arr
public import proofs.«01_k».proof.Proof.Results

@[expose] public section

set_option maxRecDepth 16384

noncomputable section

namespace Cert.KernelIdeal.Hand

open Idealize.ShloMosaic hiding ix1 ix2
open Idealize.ShloMosaic.TcCoe
open Idealize.ShloMosaic.ValueIdx
open Idealize.ShloMosaic.Pipeline (Dat)
open Cert.KernelIdeal Cert.KernelIdeal.Gen Cert.Dora

section Generic

variable {F : FTy → Type} [FloatOps F]
variable (m : (ℓ : Loc nD τ sig) → Buf (Elt F) ℓ) (c : Dev nD)

/-- The tables of the arguments. -/
def xT (i : Fin 256) (l : Fin 7168) : F .bf16 := xAll m c (ix2 i l)
def wT (i : Fin 18432) (l : Fin 7168) : F .fp8e4m3 := (V m c main_v0 : Vec F S18432x7168 .fp8e4m3) (ix2 i l)
def sIn : Vec F S18432 .f32 := m ((c : Thread nD τ).loc main_arg2)
def aIn : Vec F S64x7168 .bf16 := m ((c : Thread nD τ).loc main_arg3)
def bIn : Vec F S18432x64 .bf16 := m ((c : Thread nD τ).loc main_arg4)
def gIn : Vec F S18432 .f32 := m ((c : Thread nD τ).loc main_arg5)
def sT (i : Fin 18432) : F .f32 := sIn m c (ix1 i)
def aT (r : Fin 64) (l : Fin 7168) : F .bf16 := aIn m c (ix2 r l)
def bT (i : Fin 18432) (r : Fin 64) : F .bf16 := bIn m c (ix2 i r)
def gT (i : Fin 18432) : F .f32 := gIn m c (ix1 i)

theorem aAll_eq : aAll m c = aIn m c := V_main_arg3 m c
theorem bAll_eq : (V m c main_arg4 : Vec F S18432x64 .bf16) = bIn m c := V_main_arg4 m c
theorem sAll_at (j : Fin 18432) : (V m c main_v2 : Vec F S1x18432 .f32) (ix2 0 j) = sT m c j := by
  rw [V_v2]; exact cast_row (sIn m c) _ 0 j
theorem gAll_at (j : Fin 18432) : (V m c main_v3 : Vec F S1x18432 .f32) (ix2 0 j) = gT m c j := by
  rw [V_v3]; exact cast_row (gIn m c) _ 0 j

/-- The blocks of a point, from the tables. -/
theorem w_blk (t : Fin cfg0.N) (j : Fin 1024) :
    (fun l => (iblk m c 1 t : Vec F S1024x7168 .fp8e4m3) (ix2 j l)) = wT m c ⟨1024 * t.val + j.val, by have := lt_18 t; omega⟩ :=
  funext fun l => iblk1_at m c t j l
theorem s_blk (t : Fin cfg0.N) (j : Fin 1024) :
    (iblk m c 2 t : Vec F S1x1024 .f32) (ix2 0 j) = sT m c ⟨1024 * t.val + j.val, by have := lt_18 t; omega⟩ :=
  (iblk2_at m c t j).trans (sAll_at m c _)
theorem b_blk (t : Fin cfg0.N) (j : Fin 1024) :
    (fun r => (iblk m c 4 t : Vec F S1024x64 .bf16) (ix2 j r)) = bT m c ⟨1024 * t.val + j.val, by have := lt_18 t; omega⟩ :=
  funext fun r => (iblk4_at m c t j r).trans (congrFun (bAll_eq m c) _)
theorem g_blk (t : Fin cfg0.N) (j : Fin 1024) :
    (iblk m c 5 t : Vec F S1x1024 .f32) (ix2 0 j) = gT m c ⟨1024 * t.val + j.val, by have := lt_18 t; omega⟩ :=
  (iblk5_at m c t j).trans (gAll_at m c _)
theorem a_tab : (fun r l => aAll m c (ix2 r l)) = aT m c := by rw [aAll_eq]; rfl

end Generic

variable (m : (ℓ : Loc nD τ sig) → Buf (Elt Ideal) ℓ) (c : Dev nD)

/-- The weight and the low-rank factors are real, and the activations' rows are readable. -/
structure Good : Prop where
  x : ∀ i : Fin 256, Readable (rowMax (xT m c i))
  w : ∀ i l, Fin' (wT m c i l)
  s : ∀ i, Fin' (sT m c i)
  a : ∀ r l, Fin' (aT m c r l)
  b : ∀ i r, Fin' (bT m c i r)

variable (h : Good m c)
include h

/-- The norms of a point. -/
theorem normAt_at (t : Fin cfg0.N) (j : Fin 1024) :
    normAt m c t (ix2 0 j) = normVal (wT m c ⟨1024 * t.val + j.val, by have := lt_18 t; omega⟩) (sT m c ⟨1024 * t.val + j.val, by have := lt_18 t; omega⟩)
      (aT m c) (bT m c ⟨1024 * t.val + j.val, by have := lt_18 t; omega⟩) := by
  unfold normAt
  refine (normOf_at (iblk m c 1 t) (iblk m c 2 t) (aAll m c) (iblk m c 4 t) (fun R l => ?_) (fun R => ?_) (fun r l => ?_) (fun R r => ?_) j).trans ?_
  · rw [show (iblk m c 1 t : Vec Ideal S1024x7168 .fp8e4m3) (ix2 R l) = _ from congrFun (w_blk m c t R) l]; exact h.w _ _
  · rw [s_blk]; exact h.s _
  · rw [show aAll m c (ix2 r l) = _ from congrFun (congrFun (a_tab m c) r) l]; exact h.a _ _
  · rw [show (iblk m c 4 t : Vec Ideal S1024x64 .bf16) (ix2 R r) = _ from congrFun (b_blk m c t R) r]; exact h.b _ _
  · rw [w_blk, s_blk, a_tab, b_blk]

/-- The output of a point. -/
theorem outAt_at (t : Fin cfg0.N) (i : Fin 256) (j : Fin 1024) :
    outAt m c t (ix2 i j) = outArr (xT m c) (wT m c) (sT m c) (aT m c) (bT m c) (gT m c) (ix2 i ⟨1024 * t.val + j.val, by have := lt_18 t; omega⟩) := by
  unfold outAt
  rw [outOf_at, normAt_at m c h, w_blk, s_blk, b_blk, g_blk, scalesOf_at _ h.x]
  have hc : (fun l => codesOf (xAll m c) (ix2 i l)) = fun l => codeVal (xT m c i) l := funext fun l => codesOf_at _ h.x i l
  have hh : (fun r => hOf (xAll m c) (aAll m c) (ix2 i r)) = fun r => ∑ l : Fin 7168, xT m c i l * aT m c r l :=
    funext fun r => (hOf_at _ _ i r).trans (by rw [aAll_eq]; rfl)
  rw [hc, hh]
  rfl

/-- The result arrays. -/
theorem res6 : (dats m 0 c).arrAt 6 cfg0.N = outArr (xT m c) (wT m c) (sT m c) (aT m c) (bT m c) (gT m c) :=
  final6 m c _ fun t i j => outAt_at m c h t i j
theorem res7 : (dats m 0 c).arrAt 7 cfg0.N = normArr (wT m c) (sT m c) (aT m c) (bT m c) :=
  final7 m c _ fun t i j => by
    obtain rfl : i = 0 := Subsingleton.elim _ _
    exact normAt_at m c h t j
theorem res8 : (dats m 0 c).arrAt 8 cfg0.N = codeArr (xT m c) := by
  refine (final8 m c).trans (funext fun y => ?_)
  obtain ⟨i, j, rfl⟩ : ∃ i j, y = ix2 i j := ⟨y 0, y 1, ValueIdx.eq_ix2 y⟩
  exact codesOf_at _ h.x i j
theorem res9 : (dats m 0 c).arrAt 9 cfg0.N = scaleArr (xT m c) := by
  refine (final9 m c).trans (funext fun y => ?_)
  obtain ⟨i, j, rfl⟩ : ∃ i j, y = ix2 i j := ⟨y 0, y 1, ValueIdx.eq_ix2 y⟩
  exact scalesOf_at _ h.x i j

end Cert.KernelIdeal.Hand

end
-- ==== Proof.RefNorm.lean ====
/-
  What the reference's run leaves in its four results, over the extended reals, entry by entry.
-/
module

public import proofs.«01_k».proof.Proof.Ops
public import proofs.«01_k».proof.Proof.Gen.ReferenceIdeal.Value

@[expose] public section

set_option maxRecDepth 16384

noncomputable section

namespace Cert.ReferenceIdeal.Hand

open Idealize.ShloMosaic hiding ix1 ix2
open Idealize.ShloMosaic.ValueIdx
open Cert.ReferenceIdeal Cert.ReferenceIdeal.Gen Cert.Dora

/-- The low-rank product of the merged weight is the plain one. -/
theorem dots_nn : dot_S18432x64_S64x7168_S18432x7168_1_0_0_1_n_n = DotDims.plain 18432 64 7168 := rfl

/-- The main product has its second factor transposed … -/
theorem dots_y : dot_S256x7168_S18432x7168_S256x18432_1_1_0_0_n_n = DotDims.transposedRhs 256 7168 18432 := rfl

/-- … as have the two low-rank ones, the second … -/
theorem dots_d : dot_S256x64_S18432x64_S256x18432_1_1_0_0_n_n = DotDims.transposedRhs 256 64 18432 := rfl

/-- … and the first. -/
theorem dots_h : dot_S256x7168_S64x7168_S256x64_1_1_0_0_n_n = DotDims.transposedRhs 256 7168 64 := rfl

/-- The norms of the merged weight's rows. -/
theorem pay4_at (W : Vec Ideal S18432x7168 .fp8e4m3) (S : Vec Ideal S18432x1 .f32) (B : Vec Ideal S18432x64 .bf16) (A : Vec Ideal S64x7168 .bf16)
    (i : Fin 18432) (j : Fin 1) : k0_pay4 (F := Ideal) W S B A (ix2 i j)
      = normVal (fun l => W (ix2 i l)) (S (ix2 i 0)) (fun r l => A (ix2 r l)) (fun r => B (ix2 i r)) := by
  have hm : ∀ l : Fin 7168, (addf (φ := .f32) (mulf (extf .f32 (k0_pay2 (F := Ideal) W) bitsLt_fp8e4m3_f32) (broadcastTo S18432x7168 (k0_pay3 (F := Ideal) S) broadcasts_S18432x1_S18432x7168))
      (mulf (broadcast S18432x7168 (Scalar.ofBits (F := Ideal) .f32 0x3F000000#32)) (matmul (φ₁ := .bf16) (φ₂ := .bf16) dot_S18432x64_S64x7168_S18432x7168_1_0_0_1_n_n none B A
        (constant S18432x7168 .f32 0x00000000#32)))) (ix2 i l) = merged (fun l => W (ix2 i l)) (S (ix2 i 0)) (fun r l => A (ix2 r l)) (fun r => B (ix2 i r)) l := by
    intro l
    rw [addf_apply, mulf_apply, mulf_apply, spread_col (by decide), dot_nn _ dots_nn]
    unfold k0_pay2 k0_pay3
    rw [shapeCast_self, shapeCast_self]; rfl
  unfold k0_pay4
  refine (sqrt_apply (F := Ideal) (φ := .f32) _ _).trans (congrArg (FloatOps.sqrt (F := Ideal) (φ := .f32)) ?_)
  refine (cast_col _ _ i j).trans ((sum_row _ _ _ _ _ i).trans (Finset.sum_congr rfl fun l _ => ?_))
  exact (mulf_apply _ _ _).trans (congrArg₂ (· * ·) (hm l) (hm l))

end Cert.ReferenceIdeal.Hand
-- ==== Proof.RefOut.lean ====
/-
  What the reference's run leaves in its four results, over the extended reals, entry by entry.
-/
module

public import proofs.«01_k».proof.Proof.Ops
public import proofs.«01_k».proof.Proof.RefNorm

@[expose] public section

set_option maxRecDepth 16384

noncomputable section

namespace Cert.ReferenceIdeal.Hand

open Idealize.ShloMosaic hiding ix1 ix2
open Idealize.ShloMosaic.ValueIdx
open Cert.ReferenceIdeal Cert.ReferenceIdeal.Gen Cert.Dora

/-- The result. -/
theorem pay10_at (X : FVec Ideal S256x7168 .bf16) (W : FVec Ideal S18432x7168 .fp8e4m3) (S N : FVec Ideal S18432x1 .f32) (X' : FVec Ideal S256x7168 .f32)
    (sc : FVec Ideal S256x1 .f32) (iv : FVec Ideal S256x7168 .f32) (A : Vec Ideal S64x7168 .bf16) (B : Vec Ideal S18432x64 .bf16) (M : Vec Ideal S18432x1 .f32)
    (i : Fin 256) (j : Fin 18432) : k0_pay10 (F := Ideal) X W S N X' sc iv A B M (ix2 i j)
      = outVal (fun l => k0_pay9 (F := Ideal) X' iv (ix2 i l)) (fun l => W (ix2 j l)) (sc (ix2 i 0)) (S (ix2 j 0))
          (fun r => ∑ l : Fin 7168, X (ix2 i l) * A (ix2 r l)) (fun r => B (ix2 j r)) (M (ix2 j 0)) (N (ix2 j 0)) := by
  unfold k0_pay10
  rw [ValueIdx.truncf_apply, mulf_apply, addf_apply, mulf_apply, mulf_apply, mulf_apply, spread_row (by decide), spread_row (by decide), spread_col (by decide), transpose_at, transpose_at,
    dot_nt _ dots_y, dot_nt _ dots_d, divf_apply, shapeCast_self]
  have hh : ∀ r : Fin 64, (truncf .bf16 (matmul (φ₂ := .bf16) dot_S256x7168_S64x7168_S256x64_1_1_0_0_n_n none X A (constant S256x64 .f32 0x00000000#32)) bitsLt_bf16_f32 : FVec Ideal S256x64 .bf16) (ix2 i r)
      = ∑ l : Fin 7168, X (ix2 i l) * A (ix2 r l) := fun r => dot_nt (ψ := .bf16) _ dots_h X A i r
  simp only [hh]
  rfl

end Cert.ReferenceIdeal.Hand
-- ==== Proof.RefArr.lean ====
/-
  The result arrays of the reference's run, entry by entry, from the arrays it reads. Its grid has one point and every
  block is its whole array.
-/
module

public import proofs.«01_k».proof.Proof.Gen.ReferenceIdeal.Value
public import proofs.«01_k».proof.Proof.RefOut

@[expose] public section

set_option maxRecDepth 16384

noncomputable section

namespace Cert.ReferenceIdeal.Hand

open Idealize.ShloMosaic hiding ix1 ix2
open Idealize.ShloMosaic.TcCoe
open Idealize.ShloMosaic.ValueIdx
open Idealize.ShloMosaic.Pipeline (Dat)
open Cert.ReferenceIdeal Cert.ReferenceIdeal.Gen Cert.ReferenceIdeal.Value Cert.Dora

section Generic

variable {F : FTy → Type} [FloatOps F] [Named F]

/-- An offset of the whole array is zero. -/
theorem zero2 : (![0, 0] : Fin 2 → Nat) = fun _ => 0 := funext fun a => by fin_cases a <;> rfl

variable (x0 : Vec F S256x7168 .bf16) (x1 : Vec F S18432x7168 .fp8e4m3) (x2 : Vec F S18432x1 .f32) (x3 : Vec F S64x7168 .bf16) (x4 : Vec F S18432x64 .bf16) (x5 : Vec F S18432x1 .f32)

theorem ld0 : View.ld x0 r0_0 = x0 := View.ld_unit_zero zero2 _ _
theorem ld1 : View.ld x1 r0_1 = x1 := View.ld_unit_zero zero2 _ _
theorem ld2 : View.ld x2 r0_2 = x2 := View.ld_unit_zero zero2 _ _
theorem ld3 : View.ld x3 r0_4 = x3 := View.ld_unit_zero zero2 _ _
theorem ld4 : View.ld x4 r0_3 = x4 := View.ld_unit_zero zero2 _ _

/-- The results from the arrays the reference reads. -/
theorem out6_eq : out0_6 x0 x1 x2 x3 x4 x5 = k0_pay10 (k0_pay1 x0) (k0_pay2 x1) (k0_pay3 x2) (k0_pay4 x1 x2 x4 x3) (k0_pay5 x0) (k0_pay7 x0) (k0_pay8 x0) x3 x4 x5 := by
  unfold out0_6 k0_pay12 k0_pay13 k0_pay14 k0_pay15
  rw [ld0, ld1, ld2, ld3, ld4, ld2]
  exact View.canon_unit_zero zero2 _ _
theorem out7_eq : out0_7 x0 x1 x2 x3 x4 x5 = k0_pay11 (k0_pay4 x1 x2 x4 x3) := by
  unfold out0_7 k0_pay12
  rw [ld1, ld2, ld3, ld4]
  exact View.canon_unit_zero zero2 _ _
theorem out8_eq : out0_8 x0 x1 x2 x3 x4 x5 = k0_pay9 (k0_pay5 x0) (k0_pay8 x0) := by
  unfold out0_8 k0_pay13 k0_pay15
  rw [ld0]
  exact View.canon_unit_zero zero2 _ _
theorem out9_eq : out0_9 x0 x1 x2 x3 x4 x5 = k0_pay7 x0 := by
  unfold out0_9 k0_pay14
  rw [ld0]
  exact View.canon_unit_zero zero2 _ _

theorem pay11_at (N : FVec F S18432x1 .f32) (j : Fin 18432) : k0_pay11 N (ix2 0 j) = N (ix2 j 0) := by
  unfold k0_pay11
  exact congrArg N (funext fun a => Fin.ext (match a with | ⟨0, _⟩ => rfl | ⟨1, _⟩ => rfl))

variable (m : (ℓ : Loc nD τ sig) → Buf (Elt F) ℓ)

/-- The arrays the reference reads. -/
def xArr (c : Dev nD) : Vec F S256x7168 .bf16 := V m c main_v1
def wArr (c : Dev nD) : Vec F S18432x7168 .fp8e4m3 := V m c main_v0
def sArr (c : Dev nD) : Vec F S18432x1 .f32 := V m c main_v2
def aArr (c : Dev nD) : Vec F S64x7168 .bf16 := V m c main_arg3
def bArr (c : Dev nD) : Vec F S18432x64 .bf16 := V m c main_arg4
def gArr (c : Dev nD) : Vec F S18432x1 .f32 := V m c main_v3

/-- The one point of the grid. -/
def t0 : Fin cfg0.N := ⟨0, by decide⟩
theorem one_point (t : Fin cfg0.N) : t = t0 := by
  have h : t.val < 1 := lt_of_lt_of_eq t.isLt (show cfg0.N = 1 by decide)
  exact Fin.ext (by show t.val = 0; omega)

theorem iblk0 (c : Dev nD) (t : Fin cfg0.N) : iblk m c 0 t = xArr m c :=
  Memref.read_access_unit_zero (Elt F) main_v1 (show (fun a => win0_0.index t a * main_v1.ty.shape.size a) = fun _ => 0 from
    funext fun a => by rw [one_point t]; fin_cases a <;> decide +kernel) _ (V m c main_v1)
theorem iblk1 (c : Dev nD) (t : Fin cfg0.N) : iblk m c 1 t = wArr m c :=
  Memref.read_access_unit_zero (Elt F) main_v0 (show (fun a => win0_1.index t a * main_v0.ty.shape.size a) = fun _ => 0 from
    funext fun a => by rw [one_point t]; fin_cases a <;> decide +kernel) _ (V m c main_v0)
theorem iblk2 (c : Dev nD) (t : Fin cfg0.N) : iblk m c 2 t = sArr m c :=
  Memref.read_access_unit_zero (Elt F) main_v2 (show (fun a => win0_2.index t a * main_v2.ty.shape.size a) = fun _ => 0 from
    funext fun a => by rw [one_point t]; fin_cases a <;> decide +kernel) _ (V m c main_v2)
theorem iblk3 (c : Dev nD) (t : Fin cfg0.N) : iblk m c 3 t = aArr m c :=
  Memref.read_access_unit_zero (Elt F) main_arg3 (show (fun a => win0_3.index t a * main_arg3.ty.shape.size a) = fun _ => 0 from
    funext fun a => by rw [one_point t]; fin_cases a <;> decide +kernel) _ (V m c main_arg3)
theorem iblk4 (c : Dev nD) (t : Fin cfg0.N) : iblk m c 4 t = bArr m c :=
  Memref.read_access_unit_zero (Elt F) main_arg4 (show (fun a => win0_4.index t a * main_arg4.ty.shape.size a) = fun _ => 0 from
    funext fun a => by rw [one_point t]; fin_cases a <;> decide +kernel) _ (V m c main_arg4)
theorem iblk5 (c : Dev nD) (t : Fin cfg0.N) : iblk m c 5 t = gArr m c :=
  Memref.read_access_unit_zero (Elt F) main_v3 (show (fun a => win0_5.index t a * main_v3.ty.shape.size a) = fun _ => 0 from
    funext fun a => by rw [one_point t]; fin_cases a <;> decide +kernel) _ (V m c main_v3)

/-- What the reference reads, from its arguments. -/
theorem V_v0 (c : Dev nD) : wArr m c = bitcastToFloat .fp8e4m3 (m ((c : Thread nD τ).loc main_arg1)) := rfl
theorem V_v1 (c : Dev nD) : xArr m c = shapeCast S256x7168 (m ((c : Thread nD τ).loc main_arg0)) shapeCasts_S2x128x7168_S256x7168 := rfl
theorem V_v2 (c : Dev nD) : sArr m c = shapeCast S18432x1 (m ((c : Thread nD τ).loc main_arg2)) shapeCasts_S18432_S18432x1 := rfl
theorem V_v3 (c : Dev nD) : gArr m c = shapeCast S18432x1 (m ((c : Thread nD τ).loc main_arg5)) shapeCasts_S18432_S18432x1 := rfl
theorem V_a (c : Dev nD) : aArr m c = m ((c : Thread nD τ).loc main_arg3) := V_main_arg3 m c
theorem V_b (c : Dev nD) : bArr m c = m ((c : Thread nD τ).loc main_arg4) := V_main_arg4 m c

theorem final6 (c : Dev nD) : (dats m 0 c).arrAt 6 cfg0.N
    = k0_pay10 (k0_pay1 (xArr m c)) (k0_pay2 (wArr m c)) (k0_pay3 (sArr m c)) (k0_pay4 (wArr m c) (sArr m c) (bArr m c) (aArr m c)) (k0_pay5 (xArr m c)) (k0_pay7 (xArr m c)) (k0_pay8 (xArr m c)) (aArr m c) (bArr m c) (gArr m c) := by
  have hb := blocks6 m c t0 (by decide +kernel)
  rw [flushed6, iblk0, iblk1, iblk2, iblk3, iblk4, iblk5, out6_eq] at hb
  exact (Memref.read_access_unit_zero (Elt F) main_v4_0 (show (fun a => win0_6.index t0 a * main_v4_0.ty.shape.size a) = fun _ => 0 from funext fun a => by fin_cases a <;> decide +kernel) _ ((dats m 0 c).arrAt 6 cfg0.N)).symm.trans hb
theorem final7 (c : Dev nD) : (dats m 0 c).arrAt 7 cfg0.N = k0_pay11 (k0_pay4 (wArr m c) (sArr m c) (bArr m c) (aArr m c)) := by
  have hb := blocks7 m c t0 (by decide +kernel)
  rw [flushed7, iblk0, iblk1, iblk2, iblk3, iblk4, iblk5, out7_eq] at hb
  exact (Memref.read_access_unit_zero (Elt F) main_v4_1 (show (fun a => win0_7.index t0 a * main_v4_1.ty.shape.size a) = fun _ => 0 from funext fun a => by fin_cases a <;> decide +kernel) _ ((dats m 0 c).arrAt 7 cfg0.N)).symm.trans hb
theorem final8 (c : Dev nD) : (dats m 0 c).arrAt 8 cfg0.N = k0_pay9 (k0_pay5 (xArr m c)) (k0_pay8 (xArr m c)) := by
  have hb := blocks8 m c t0 (by decide +kernel)
  rw [flushed8, iblk0, iblk1, iblk2, iblk3, iblk4, iblk5, out8_eq] at hb
  exact (Memref.read_access_unit_zero (Elt F) main_v4_2 (show (fun a => win0_8.index t0 a * main_v4_2.ty.shape.size a) = fun _ => 0 from funext fun a => by fin_cases a <;> decide +kernel) _ ((dats m 0 c).arrAt 8 cfg0.N)).symm.trans hb
theorem final9 (c : Dev nD) : (dats m 0 c).arrAt 9 cfg0.N = k0_pay7 (xArr m c) := by
  have hb := blocks9 m c t0 (by decide +kernel)
  rw [flushed9, iblk0, iblk1, iblk2, iblk3, iblk4, iblk5, out9_eq] at hb
  exact (Memref.read_access_unit_zero (Elt F) main_v4_3 (show (fun a => win0_9.index t0 a * main_v4_3.ty.shape.size a) = fun _ => 0 from funext fun a => by fin_cases a <;> decide +kernel) _ ((dats m 0 c).arrAt 9 cfg0.N)).symm.trans hb

end Generic

end Cert.ReferenceIdeal.Hand

end
-- ==== Proof.RefQuant.lean ====
/-
  What the reference's run leaves in its four results, over the extended reals, entry by entry.
-/
module

public import proofs.«01_k».proof.Proof.Ops
public import proofs.«01_k».proof.Proof.Gen.ReferenceIdeal.Value

@[expose] public section

set_option maxRecDepth 16384

noncomputable section

namespace Cert.ReferenceIdeal.Hand

open Idealize.ShloMosaic hiding ix1 ix2
open Idealize.ShloMosaic.ValueIdx
open Cert.ReferenceIdeal Cert.ReferenceIdeal.Gen Cert.Dora

/-- The named constant is the natural logarithm of two. -/
theorem ln2_eq : (Named.named (F := Ideal) κ "ln2" 0x3F317218#32 : Ideal .f32) = ((Real.log 2 : ℝ) : EReal) := by simp [Named.named, κ]

/-- The largest magnitudes of the rows, as a column. -/
def tops {F : FTy → Type} [FloatOps F] (X : Vec F S256x7168 .bf16) : FVec F S256x1 .f32 :=
  shapeCast S256x1 (multiReduction .maximumf [1] S256 (absf (k0_pay5 X)) 0xFF800000#32 reduces_S256x7168_S256 (.inl rfl) rfl) shapeCasts_S256_S256x1

/-- The exponent of a row is a function of its largest magnitude. -/
theorem pay6_eq {F : FTy → Type} [FloatOps F] [Named F] (X : Vec F S256x7168 .bf16) (y : S256x1.Idx) : k0_pay6 X y
    = Scalar.select (FloatOps.cmpf .oeq (tops X y) (FloatOps.ofBits .f32 0x00000000#32)) (FloatOps.ofBits .f32 0x00000000#32)
      (FloatOps.addf (FloatOps.floor (FloatOps.divf (FloatOps.log (FloatOps.mulf (tops X y) (FloatOps.ofBits .f32 0x3B124925#32)))
        (Named.named κ "ln2" 0x3F317218#32))) (FloatOps.ofBits .f32 0x3F800000#32)) := rfl

/-- The exponents of the rows. -/
theorem pay6_at (X : Vec Ideal S256x7168 .bf16) (i : Fin 256) (j : Fin 1) :
    k0_pay6 (F := Ideal) X (ix2 i j) = expReal (rowMax fun l : Fin 7168 => X (ix2 i l)) := by
  have hmax : tops (F := Ideal) X (ix2 i j) = rowMax (fun k : Fin 7168 => X (ix2 i k)) := by
    unfold tops
    refine (cast_col _ _ i j).trans ((max_row _ _ _ _ i).trans ?_)
    unfold k0_pay5 k0_pay1
    rw [shapeCast_self]; rfl
  have hsel := pay6_eq (F := Ideal) X (ix2 i j)
  rw [hmax] at hsel
  generalize rowMax (fun k : Fin 7168 => X (ix2 i k)) = a at hsel ⊢
  have h0 : (FloatOps.ofBits .f32 0x00000000#32 : Ideal .f32) = (0 : EReal) := Ideal.ofBits_zero_f32
  have h1 : (FloatOps.ofBits .f32 0x3F800000#32 : Ideal .f32) = (1 : EReal) := Ideal.ofBits_one_f32
  have hc : FloatOps.cmpf (F := Ideal) (φ := .f32) .oeq a (0 : EReal) = BitVec.ofBool (decide (a = 0)) := rfl
  rw [hsel, ln2_eq, h0, h1, hc]
  unfold expReal
  by_cases h : a = 0
  · rw [if_pos h, decide_eq_true h]; rfl
  · rw [if_neg h, decide_eq_false h]; rfl

/-- The scales of the rows. -/
theorem pay7_at (X : Vec Ideal S256x7168 .bf16) (i : Fin 256) (j : Fin 1) :
    k0_pay7 (F := Ideal) X (ix2 i j) = scaleVal (fun l : Fin 7168 => X (ix2 i l)) := by
  unfold k0_pay7 scaleVal
  rw [← pay6_at X i j]
  exact exp2_apply (F := Ideal) (φ := .f32) _ _

/-- The codes of the rows. -/
theorem pay9_at (X : Vec Ideal S256x7168 .bf16) (i : Fin 256) (j : Fin 7168) :
    k0_pay9 (F := Ideal) (k0_pay5 X) (k0_pay8 X) (ix2 i j) = codeVal (fun l : Fin 7168 => X (ix2 i l)) j := by
  have h5 : k0_pay5 (F := Ideal) X (ix2 i j) = X (ix2 i j) := by unfold k0_pay5 k0_pay1; rw [shapeCast_self]; rfl
  have h8 : k0_pay8 (F := Ideal) X (ix2 i j) = Ideal.exp2 (0 - expReal (rowMax fun l : Fin 7168 => X (ix2 i l))) := by
    unfold k0_pay8
    refine (spread_col (by decide) _ _ i j).trans ?_
    have h0 : broadcast (α := Ideal .f32) S256x1 (Scalar.ofBits (F := Ideal) .f32 0x00000000#32) (ix2 i 0) = (0 : EReal) := Ideal.ofBits_zero_f32
    rw [exp2_apply, ValueIdx.subf_apply, pay6_at, h0]
    generalize (0 : EReal) - _ = z
    rfl
  have h9 : ∀ u v : FVec Ideal S256x7168 .f32, k0_pay9 (F := Ideal) u v (ix2 i j) = min (Ideal.ofBits .f32 0x43E00000#32)
      (max (Ideal.ofBits .f32 0xC3E00000#32) (u (ix2 i j) * v (ix2 i j))) := fun _ _ => rfl
  rw [h9, h5, h8]
  unfold codeVal
  with_reducible rfl

end Cert.ReferenceIdeal.Hand
-- ==== Proof.Ref.lean ====
/-
  What the reference's run ends with: the four results as the plain tables say.
-/
module

public import proofs.«01_k».proof.Proof.RefArr
public import proofs.«01_k».proof.Proof.RefQuant
public import proofs.«01_k».proof.Proof.Results

@[expose] public section

set_option maxRecDepth 16384

noncomputable section

namespace Cert.ReferenceIdeal.Hand

open Idealize.ShloMosaic hiding ix1 ix2
open Idealize.ShloMosaic.TcCoe
open Idealize.ShloMosaic.ValueIdx
open Idealize.ShloMosaic.Pipeline (Dat)
open Cert.ReferenceIdeal Cert.ReferenceIdeal.Gen Cert.ReferenceIdeal.Value Cert.Dora

section Generic

variable {F : FTy → Type} [FloatOps F] [Named F]
variable (m : (ℓ : Loc nD τ sig) → Buf (Elt F) ℓ) (c : Dev nD)

/-- The tables of the arguments. -/
def xT (i : Fin 256) (l : Fin 7168) : F .bf16 := xArr m c (ix2 i l)
def wT (i : Fin 18432) (l : Fin 7168) : F .fp8e4m3 := wArr m c (ix2 i l)
def sIn : Vec F S18432 .f32 := m ((c : Thread nD τ).loc main_arg2)
def gIn : Vec F S18432 .f32 := m ((c : Thread nD τ).loc main_arg5)
def sT (i : Fin 18432) : F .f32 := sIn m c (ix1 i)
def aT (r : Fin 64) (l : Fin 7168) : F .bf16 := aArr m c (ix2 r l)
def bT (i : Fin 18432) (r : Fin 64) : F .bf16 := bArr m c (ix2 i r)
def gT (i : Fin 18432) : F .f32 := gIn m c (ix1 i)

theorem sArr_at (j : Fin 18432) : sArr m c (ix2 j 0) = sT m c j := by
  rw [V_v2]; exact cast_col (sIn m c) _ j 0
theorem gArr_at (j : Fin 18432) : gArr m c (ix2 j 0) = gT m c j := by
  rw [V_v3]; exact cast_col (gIn m c) _ j 0

end Generic

variable (m : (ℓ : Loc nD τ sig) → Buf (Elt Ideal) ℓ) (c : Dev nD)

/-- The norm of a row. -/
theorem norm_at (j : Fin 18432) : k0_pay4 (F := Ideal) (wArr m c) (sArr m c) (bArr m c) (aArr m c) (ix2 j 0) = normVal (wT m c j) (sT m c j) (aT m c) (bT m c j) := by
  rw [pay4_at, sArr_at]
  rfl

/-- The result arrays. -/
theorem res6 : (dats m 0 c).arrAt 6 cfg0.N = outArr (xT m c) (wT m c) (sT m c) (aT m c) (bT m c) (gT m c) := by
  refine (final6 m c).trans (funext fun y => ?_)
  obtain ⟨i, j, rfl⟩ : ∃ i j, y = ix2 i j := ⟨y 0, y 1, ValueIdx.eq_ix2 y⟩
  have hc : (fun l => k0_pay9 (F := Ideal) (k0_pay5 (xArr m c)) (k0_pay8 (xArr m c)) (ix2 i l)) = fun l => codeVal (xT m c i) l :=
    funext fun l => pay9_at (xArr m c) i l
  have h1 : k0_pay1 (xArr m c) = xArr m c := by unfold k0_pay1; exact shapeCast_self _ _
  have h2 : k0_pay2 (wArr m c) = wArr m c := by unfold k0_pay2; exact shapeCast_self _ _
  have h3 : k0_pay3 (sArr m c) = sArr m c := by unfold k0_pay3; exact shapeCast_self _ _
  rw [pay10_at, hc, h1, h2, h3, norm_at, sArr_at, gArr_at, pay7_at]
  rfl
theorem res7 : (dats m 0 c).arrAt 7 cfg0.N = normArr (wT m c) (sT m c) (aT m c) (bT m c) := by
  refine (final7 m c).trans (funext fun y => ?_)
  obtain ⟨i, j, rfl⟩ : ∃ (i : Fin 1) (j : Fin 18432), y = ix2 i j := ⟨y 0, y 1, ValueIdx.eq_ix2 y⟩
  obtain rfl : i = 0 := Subsingleton.elim _ _
  exact (pay11_at _ j).trans (norm_at m c j)
theorem res8 : (dats m 0 c).arrAt 8 cfg0.N = codeArr (xT m c) := by
  refine (final8 m c).trans (funext fun y => ?_)
  obtain ⟨i, j, rfl⟩ : ∃ i j, y = ix2 i j := ⟨y 0, y 1, ValueIdx.eq_ix2 y⟩
  exact pay9_at (xArr m c) i j
theorem res9 : (dats m 0 c).arrAt 9 cfg0.N = scaleArr (xT m c) := by
  refine (final9 m c).trans (funext fun y => ?_)
  obtain ⟨i, j, rfl⟩ : ∃ i j, y = ix2 i j := ⟨y 0, y 1, ValueIdx.eq_ix2 y⟩
  exact pay7_at (xArr m c) i j

end Cert.ReferenceIdeal.Hand

end
-- ==== Proof.Alg.lean ====
/-
  The value claim: from readable arguments the kernel's ideal program and the reference leave the same four results.
-/
module

public import proofs.«01_k».proof.Defs
public import proofs.«01_k».proof.Proof.Pre
public import proofs.«01_k».proof.Proof.Ker
public import proofs.«01_k».proof.Proof.Ref

@[expose] public section

set_option maxRecDepth 16384

noncomputable section

namespace Cert.Alg

open Idealize.ShloMosaic hiding ix1 ix2 ix3
open Idealize.ShloMosaic.TcCoe
open Idealize.ShloMosaic.ValueIdx
open Idealize.SL.Sem
open Cert.Dora

attribute [local instance] Cert.KernelIdeal.Gen.facts Cert.ReferenceIdeal.Gen.facts Cert.Pre_readable.facts

section Generic

variable {F : FTy → Type} [FloatOps F] [Named F]
variable (m : (ℓ : Loc KernelIdeal.nD KernelIdeal.τ KernelIdeal.sig) → Buf (Elt F) ℓ) (c : Dev KernelIdeal.nD)

/-- The activations and the weight's bytes as they come in. -/
def xIn : Vec F KernelIdeal.S2x128x7168 .bf16 := m ((c.tc : Thread KernelIdeal.nD KernelIdeal.τ).loc KernelIdeal.main_arg0)
def wIn : IVec KernelIdeal.S18432x7168 8 := m ((c.tc : Thread KernelIdeal.nD KernelIdeal.τ).loc KernelIdeal.main_arg1)

/-- Row `i` of the activations is row `i % 128` of batch `i / 128`. -/
theorem xT_eq (i : Fin 256) : KernelIdeal.Hand.xT m c i
    = fun l => xIn m c (ix3 (⟨i.val / 128, by omega⟩ : Fin 2) (⟨i.val % 128, by omega⟩ : Fin 128) l) := funext fun l => by
  unfold KernelIdeal.Hand.xT KernelIdeal.Hand.xAll
  rw [KernelIdeal.Hand.V_v1]
  refine shapeCast_apply (xIn m c) _ (ix2 i l) _ ?_
  rw [Shape.rowMajor_val_two, Shape.rowMajor_val_three]
  show (i.val / 128 * 128 + i.val % 128) * 7168 + l.val = i.val * 7168 + l.val
  omega

/-- The weight's codes are its bytes. -/
theorem wT_eq (i : Fin 18432) (l : Fin 7168) : KernelIdeal.Hand.wT m c i l = FloatOps.ofBits .fp8e4m3 (wIn m c (ix2 i l)) := rfl

variable (m' : (ℓ : Loc ReferenceIdeal.nD ReferenceIdeal.τ ReferenceIdeal.sig) → Buf (Elt F) ℓ)

/-- Equal arguments give equal tables. -/
theorem tab_x (h : m' ((c.tc : Thread ReferenceIdeal.nD ReferenceIdeal.τ).loc ReferenceIdeal.main_arg0) = m ((c.tc : Thread KernelIdeal.nD KernelIdeal.τ).loc KernelIdeal.main_arg0)) :
    ReferenceIdeal.Hand.xT m' c = KernelIdeal.Hand.xT m c := by
  unfold ReferenceIdeal.Hand.xT KernelIdeal.Hand.xT KernelIdeal.Hand.xAll
  rw [ReferenceIdeal.Hand.V_v1, KernelIdeal.Hand.V_v1, h]
theorem tab_w (h : m' ((c.tc : Thread ReferenceIdeal.nD ReferenceIdeal.τ).loc ReferenceIdeal.main_arg1) = m ((c.tc : Thread KernelIdeal.nD KernelIdeal.τ).loc KernelIdeal.main_arg1)) :
    ReferenceIdeal.Hand.wT m' c = KernelIdeal.Hand.wT m c := by
  unfold ReferenceIdeal.Hand.wT KernelIdeal.Hand.wT
  rw [ReferenceIdeal.Hand.V_v0, KernelIdeal.Hand.V_v0, h]
theorem tab_s (h : m' ((c.tc : Thread ReferenceIdeal.nD ReferenceIdeal.τ).loc ReferenceIdeal.main_arg2) = m ((c.tc : Thread KernelIdeal.nD KernelIdeal.τ).loc KernelIdeal.main_arg2)) :
    ReferenceIdeal.Hand.sT m' c = KernelIdeal.Hand.sT m c := by
  unfold ReferenceIdeal.Hand.sT KernelIdeal.Hand.sT ReferenceIdeal.Hand.sIn KernelIdeal.Hand.sIn
  rw [h]
theorem tab_a (h : m' ((c.tc : Thread ReferenceIdeal.nD ReferenceIdeal.τ).loc ReferenceIdeal.main_arg3) = m ((c.tc : Thread KernelIdeal.nD KernelIdeal.τ).loc KernelIdeal.main_arg3)) :
    ReferenceIdeal.Hand.aT m' c = KernelIdeal.Hand.aT m c := by
  unfold ReferenceIdeal.Hand.aT KernelIdeal.Hand.aT KernelIdeal.Hand.aIn
  rw [ReferenceIdeal.Hand.V_a, h]
theorem tab_b (h : m' ((c.tc : Thread ReferenceIdeal.nD ReferenceIdeal.τ).loc ReferenceIdeal.main_arg4) = m ((c.tc : Thread KernelIdeal.nD KernelIdeal.τ).loc KernelIdeal.main_arg4)) :
    ReferenceIdeal.Hand.bT m' c = KernelIdeal.Hand.bT m c := by
  unfold ReferenceIdeal.Hand.bT KernelIdeal.Hand.bT KernelIdeal.Hand.bIn
  rw [ReferenceIdeal.Hand.V_b, h]
theorem tab_g (h : m' ((c.tc : Thread ReferenceIdeal.nD ReferenceIdeal.τ).loc ReferenceIdeal.main_arg5) = m ((c.tc : Thread KernelIdeal.nD KernelIdeal.τ).loc KernelIdeal.main_arg5)) :
    ReferenceIdeal.Hand.gT m' c = KernelIdeal.Hand.gT m c := by
  unfold ReferenceIdeal.Hand.gT KernelIdeal.Hand.gT ReferenceIdeal.Hand.gIn KernelIdeal.Hand.gIn
  rw [h]

end Generic

/-- What the precondition gives. -/
theorem good (m : (ℓ : Loc KernelIdeal.nD KernelIdeal.τ KernelIdeal.sig) → Buf (Elt Ideal) ℓ) (h : Cert.Pre_KernelIdeal_readable m) (c : Dev KernelIdeal.nD) :
    KernelIdeal.Hand.Good m c := by
  obtain ⟨h1, h2, h3, h4, h5⟩ := h c
  refine ⟨fun i => ?_, fun i l => ?_, fun i => ?_, fun r l => ?_, fun i r => ?_⟩
  · rw [xT_eq]
    exact Pre_readable.rows_readable (xIn m c) _ _ _ _ _ h1 _ _
  · rw [wT_eq]
    exact Pre_readable.codes_real _ (wIn m c) _ _ _ _ h2 _
  · exact Pre_readable.scales_real _ _ (KernelIdeal.Hand.sIn m c) _ _ _ h3 _
  · exact Pre_readable.A_real _ _ _ (KernelIdeal.Hand.aIn m c) _ _ h4 _
  · exact Pre_readable.B_real _ _ _ _ (KernelIdeal.Hand.bIn m c) _ h5 _

/-- The kernel's ideal program and the reference, run from readable arguments, end with the same results. -/
theorem algebraic : Cert.algebraic_KernelIdeal_ReferenceIdeal_pre_readable := by
  intro m g m' g' hp ha
  refine ⟨fun c => outArr (KernelIdeal.Hand.xT m c) (KernelIdeal.Hand.wT m c) (KernelIdeal.Hand.sT m c) (KernelIdeal.Hand.aT m c) (KernelIdeal.Hand.bT m c) (KernelIdeal.Hand.gT m c),
    fun c => normArr (KernelIdeal.Hand.wT m c) (KernelIdeal.Hand.sT m c) (KernelIdeal.Hand.aT m c) (KernelIdeal.Hand.bT m c),
    fun c => codeArr (KernelIdeal.Hand.xT m c), fun c => scaleArr (KernelIdeal.Hand.xT m c), ?_, ?_⟩
  · refine (θ_run KernelIdeal.defs _ _).mono (fun r h c => ?_) (θ_run_and (KernelIdeal.Hand.frame m g) (KernelIdeal.Hand.run_main m g))
    have hg := good m hp c
    exact ⟨((h.2 c).1 6).trans (KernelIdeal.Hand.res6 m c hg), ((h.2 c).1 7).trans (KernelIdeal.Hand.res7 m c hg),
      ((h.2 c).1 8).trans (KernelIdeal.Hand.res8 m c hg), ((h.2 c).1 9).trans (KernelIdeal.Hand.res9 m c hg), h.1.1 c⟩
  · refine (θ_run ReferenceIdeal.defs _ _).mono (fun r h c => ?_) (ReferenceIdeal.Value.run_blocks m' g')
    obtain ⟨k6, k7, k8, k9, kept⟩ := h c
    obtain ⟨a0, a1, a2, a3, a4, a5⟩ := ha c
    have t0 := tab_x m c m' a0
    have t1 := tab_w m c m' a1
    have t2 := tab_s m c m' a2
    have t3 := tab_a m c m' a3
    have t4 := tab_b m c m' a4
    have t5 := tab_g m c m' a5
    refine ⟨k6.trans ((ReferenceIdeal.Hand.res6 m' c).trans ?_), k7.trans ((ReferenceIdeal.Hand.res7 m' c).trans ?_),
      k8.trans ((ReferenceIdeal.Hand.res8 m' c).trans ?_), k9.trans ((ReferenceIdeal.Hand.res9 m' c).trans ?_), kept⟩
    · rw [t0, t1, t2, t3, t4, t5]
    · rw [t1, t2, t3, t4]
    · rw [t0]
    · rw [t0]

end Cert.Alg

end
-- ==== Proof.lean ====
/-
  The proof of the claims: the frames of the three programs, and that the kernel's ideal program and the reference leave the
  same four results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Same
public import proofs.«01_k».proof.Proof.Alg
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The three programs terminate without fault and leave their arguments as they were; the ideal program is the kernel's; from
    readable arguments it leaves the reference's four results. -/
theorem claim : Cert.Claim := ⟨Cert.Kernel.Gen.facts, Cert.KernelIdeal.Gen.facts, Cert.ReferenceIdeal.Gen.facts, Cert.Pre_readable.facts,
  fun m g _ => Cert.Same.frame m g, fun m g _ => Cert.KernelIdeal.Hand.frame m g, fun m g _ => Cert.KernelIdeal.Hand.frame m g,
  fun m g _ => Cert.ReferenceIdeal.Gen.frame m g, fun m g _ => Cert.ReferenceIdeal.Gen.frame m g, trivial, Cert.Alg.algebraic⟩

end Cert.Proof

end
